-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_untied_pre_finite [hKernelIdeal : Cert.KernelIdeal.Facts] [hReferenceIdeal : Cert.ReferenceIdeal.Facts] [hPre_finite : Cert.Pre_finite.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          (∀ i : (⟨2, ![16384, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v4) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v5) i = v1 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v6) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 64]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v2) i = v0 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v17) i = v1 c i)
          ∧ (∀ i : (⟨2, ![16384, 8]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_indices) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hOn_untied : Cert.On_untied.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_untied_pre_finite (hKernelIdeal := hKernelIdeal) (hReferenceIdeal := hReferenceIdeal) (hPre_finite := hPre_finite) (hOn_untied := hOn_untied)
-- ==== On_untied.lean ====
abbrev S2x8192x4096 : Shape := ⟨3, ![2, 8192, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S16384x64x1 : Shape := ⟨3, ![16384, 64, 1]⟩
abbrev S16384x1x64 : Shape := ⟨3, ![16384, 1, 64]⟩
abbrev S16384x64x64 : Shape := ⟨3, ![16384, 64, 64]⟩
abbrev S_ : Shape := ⟨0, ![]⟩
abbrev S8 : Shape := ⟨1, ![8]⟩
abbrev S1x1x8 : Shape := ⟨3, ![1, 1, 8]⟩
abbrev S16384x64x8 : Shape := ⟨3, ![16384, 64, 8]⟩
abbrev S16384x8 : Shape := ⟨2, ![16384, 8]⟩

class Facts : Prop where
  shapeCasts_S2x8192x4096_S16384x4096 : S2x8192x4096.ShapeCasts S16384x4096
  transposes_S64x4096_S4096x64_1_0 : S64x4096.Transposes [1, 0] S4096x64
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x1x64_S16384x64x64_0_1_2 : S16384x1x64.BroadcastsInDim S16384x64x64 (![0, 1, 2] : Fin 3 → Fin S16384x64x64.rank)
  bcast_S16384x64x1_S16384x64x64_0_1_2 : S16384x64x1.BroadcastsInDim S16384x64x64 (![0, 1, 2] : Fin 3 → Fin S16384x64x64.rank)
  natLt_1_32 : 1 < 32
  reducesTo_S16384x64x64_S16384x64_d2 : S16384x64x64.ReducesTo [2] S16384x64
  h_S_ : 0 < S_.numel
  bcast_S8_S1x1x8_2 : S8.BroadcastsInDim S1x1x8 (![2] : Fin 1 → Fin S1x1x8.rank)
  bcast_S16384x64x1_S16384x64x8_0_1_2 : S16384x64x1.BroadcastsInDim S16384x64x8 (![0, 1, 2] : Fin 3 → Fin S16384x64x8.rank)
  bcast_S1x1x8_S16384x64x8_0_1_2 : S1x1x8.BroadcastsInDim S16384x64x8 (![0, 1, 2] : Fin 3 → Fin S16384x64x8.rank)
  bcast_S_S16384x64x1 : S_.BroadcastsInDim S16384x64x1 (![] : Fin 0 → Fin S16384x64x1.rank)
  bcast_S_S16384x64 : S_.BroadcastsInDim S16384x64 (![] : Fin 0 → Fin S16384x64.rank)
  bcast_S_S16384x8 : S_.BroadcastsInDim S16384x8 (![] : Fin 0 → Fin S16384x8.rank)
  reducesTo_S16384x64x8_S16384x8_d1 : S16384x64x8.ReducesTo [1] S16384x8
  dot_S16384x4096_S4096x64_S16384x64_1_0_0_1_n_n_wf : DotDims.WF S16384x4096 S4096x64 S16384x64 [1] [0] [0] [1] [] []

variable [Facts]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf
def fn_part1 {F : FTy → Type} [FloatOps F] (main_v20 : IVec S16384x64x8 1) (main_v21 : IVec S16384x64x1 32) : IVec S16384x64 1 × IVec S16384x8 1 × IVec S16384x8 1 :=
  let main_c_1 : IVec S_ 32 := constantI S_ 32 1#32
  let main_v22 : IVec S16384x64x1 32 := broadcastInDim S16384x64x1 ![] bcast_S_S16384x64x1 main_c_1
  let main_v23 : IVec S16384x64x1 1 := cmpi .eq main_v21 main_v22
  let main_v24 : IVec S16384x64x8 1 := broadcastInDim S16384x64x8 ![0, 1, 2] bcast_S16384x64x1_S16384x64x8_0_1_2 main_v23
  let main_v25 : IVec S16384x64x8 1 := andi main_v20 main_v24
  let main_c_2 : IVec S_ 1 := constantI S_ 1 1#1
  let main_v26 : IVec S16384x64 1 := broadcastInDim S16384x64 ![] bcast_S_S16384x64 main_c_2
  let main_c_3 : IVec S_ 1 := constantI S_ 1 1#1
  let main_v27 : IVec S16384x8 1 := broadcastInDim S16384x8 ![] bcast_S_S16384x8 main_c_3
  let main_c_4 : IVec S_ 1 := constantI S_ 1 0#1
  let main_v28 : IVec S16384x8 1 := (fun x v => Host.reduce IntOp.ori x v reducesTo_S16384x64x8_S16384x8_d1 h_S_) main_v25 main_c_4
  (main_v26, main_v27, main_v28)

def fn {F : FTy → Type} [FloatOps F] (main_arg0 : FVec F S2x8192x4096 .f32) (main_arg1 : FVec F S64x4096 .f32) : IVec S16384x64 1 × IVec S16384x8 1 × IVec S16384x8 1 :=
  let main_v0 : FVec F S16384x4096 .f32 := shapeCast S16384x4096 main_arg0 shapeCasts_S2x8192x4096_S16384x4096
  let main_v1 : FVec F S4096x64 .f32 := (transpose S4096x64 [1, 0] · transposes_S64x4096_S4096x64_1_0) main_arg1
  let main_v2 : FVec F S16384x64 .f32 := (fun l r => Host.dotGeneral dot_S16384x4096_S4096x64_S16384x64_1_0_0_1_n_n none l r) main_v0 main_v1
  let main_v3 : FVec F S16384x64x1 .f32 := broadcastInDim S16384x64x1 ![0, 1] bcast_S16384x64_S16384x64x1_0_1 main_v2
  let main_v4 : FVec F S16384x1x64 .f32 := broadcastInDim S16384x1x64 ![0, 2] bcast_S16384x64_S16384x1x64_0_2 main_v2
  let main_v5 : FVec F S16384x64x64 .f32 := broadcastInDim S16384x64x64 ![0, 1, 2] bcast_S16384x1x64_S16384x64x64_0_1_2 main_v4
  let main_v6 : FVec F S16384x64x64 .f32 := broadcastInDim S16384x64x64 ![0, 1, 2] bcast_S16384x64x1_S16384x64x64_0_1_2 main_v3
  let main_v7 : IVec S16384x64x64 1 := cmpf .ogt main_v5 main_v6
  let main_v8 : IVec S16384x64x64 32 := (extui 32 · natLt_1_32) main_v7
  let main_c : IVec S_ 32 := constantI S_ 32 0#32
  let main_v9 : IVec S16384x64 32 := (fun x v => Host.reduce IntOp.addi x v reducesTo_S16384x64x64_S16384x64_d2 h_S_) main_v8 main_c
  let main_v10 : FVec F S16384x64x64 .f32 := broadcastInDim S16384x64x64 ![0, 1, 2] bcast_S16384x1x64_S16384x64x64_0_1_2 main_v4
  let main_v11 : FVec F S16384x64x64 .f32 := broadcastInDim S16384x64x64 ![0, 1, 2] bcast_S16384x64x1_S16384x64x64_0_1_2 main_v3
  let main_v12 : IVec S16384x64x64 1 := cmpf .oeq main_v10 main_v11
  let main_v13 : IVec S16384x64x64 32 := (extui 32 · natLt_1_32) main_v12
  let main_c_0 : IVec S_ 32 := constantI S_ 32 0#32
  let main_v14 : IVec S16384x64 32 := (fun x v => Host.reduce IntOp.addi x v reducesTo_S16384x64x64_S16384x64_d2 h_S_) main_v13 main_c_0
  let main_v15 : IVec S16384x64x1 32 := broadcastInDim S16384x64x1 ![0, 1] bcast_S16384x64_S16384x64x1_0_1 main_v9
  let main_v16 : IVec S8 32 := iotaInDim S8 32 0
  let main_v17 : IVec S1x1x8 32 := broadcastInDim S1x1x8 ![2] bcast_S8_S1x1x8_2 main_v16
  let main_v18 : IVec S16384x64x8 32 := broadcastInDim S16384x64x8 ![0, 1, 2] bcast_S16384x64x1_S16384x64x8_0_1_2 main_v15
  let main_v19 : IVec S16384x64x8 32 := broadcastInDim S16384x64x8 ![0, 1, 2] bcast_S1x1x8_S16384x64x8_0_1_2 main_v17
  let main_v20 : IVec S16384x64x8 1 := cmpi .eq main_v18 main_v19
  let main_v21 : IVec S16384x64x1 32 := broadcastInDim S16384x64x1 ![0, 1] bcast_S16384x64_S16384x64x1_0_1 main_v14
  fn_part1 (F := F) main_v20 main_v21
-- ==== Pre_finite.lean ====
abbrev S2x8192x4096 : Shape := ⟨3, ![2, 8192, 4096]⟩
abbrev S64x4096 : Shape := ⟨2, ![64, 4096]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x8192x4096 .f32) (main_arg1 : FVec F S64x4096 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x8192x4096 : Shape := ⟨3, ![2, 8192, 4096]⟩
abbrev S64x4096 : Shape := ⟨2, ![64, 4096]⟩
abbrev S16384x4096 : Shape := ⟨2, ![16384, 4096]⟩
abbrev S4096x64 : Shape := ⟨2, ![4096, 64]⟩
abbrev S64x16384 : Shape := ⟨2, ![64, 16384]⟩
abbrev S8192x128 : Shape := ⟨2, ![8192, 128]⟩
abbrev S1024x4096 : Shape := ⟨2, ![1024, 4096]⟩
abbrev S64x1024 : Shape := ⟨2, ![64, 1024]⟩
abbrev S512x128 : Shape := ⟨2, ![512, 128]⟩
abbrev S1024x64 : Shape := ⟨2, ![1024, 64]⟩
abbrev S512x64 : Shape := ⟨2, ![512, 64]⟩
abbrev S8x16384 : Shape := ⟨2, ![8, 16384]⟩
abbrev S256x128 : Shape := ⟨2, ![256, 128]⟩
abbrev S8x517 : Shape := ⟨2, ![8, 517]⟩
abbrev S16 : Shape := ⟨1, ![16]⟩
abbrev S_ : Shape := ⟨0, ![]⟩
abbrev S1x16 : Shape := ⟨2, ![1, 16]⟩
abbrev S1 : Shape := ⟨1, ![1]⟩
abbrev S8x256 : Shape := ⟨2, ![8, 256]⟩
abbrev S16384x64 : Shape := ⟨2, ![16384, 64]⟩
abbrev S16384x8 : Shape := ⟨2, ![16384, 8]⟩

abbrev nBuf : Table → Nat
  | .hbm => 11
  | .local .tc .vmem => 7
  | .local .scVector .vmem => 5
  | _ => 0

abbrev bufTy : (tb : Table) → Fin (nBuf tb) → BufTy
  | .hbm, ⟨0, _⟩ => ⟨S2x8192x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S64x16384, .f32⟩
  | .hbm, ⟨5, _⟩ => ⟨S8192x128, .f32⟩
  | .hbm, ⟨6, _⟩ => ⟨S8x16384, .f32⟩
  | .hbm, ⟨7, _⟩ => ⟨S8x16384, .i32⟩
  | .hbm, ⟨8, _⟩ => ⟨S16384x64, .f32⟩
  | .hbm, ⟨9, _⟩ => ⟨S16384x8, .f32⟩
  | .hbm, ⟨10, _⟩ => ⟨S16384x8, .i32⟩
  | .local .tc .vmem, ⟨0, _⟩ => ⟨S1024x4096, .f32⟩
  | .local .tc .vmem, ⟨1, _⟩ => ⟨S1024x4096, .f32⟩
  | .local .tc .vmem, ⟨2, _⟩ => ⟨S4096x64, .f32⟩
  | .local .tc .vmem, ⟨3, _⟩ => ⟨S64x1024, .f32⟩
  | .local .tc .vmem, ⟨4, _⟩ => ⟨S64x1024, .f32⟩
  | .local .tc .vmem, ⟨5, _⟩ => ⟨S512x128, .f32⟩
  | .local .tc .vmem, ⟨6, _⟩ => ⟨S512x128, .f32⟩
  | .local .scVector .vmem, ⟨0, _⟩ => ⟨S256x128, .f32⟩
  | .local .scVector .vmem, ⟨1, _⟩ => ⟨S8x517, .f32⟩
  | .local .scVector .vmem, ⟨2, _⟩ => ⟨S8x517, .i32⟩
  | .local .scVector .vmem, ⟨3, _⟩ => ⟨S16, .f32⟩
  | .local .scVector .vmem, ⟨4, _⟩ => ⟨S16, .i32⟩
  | _, _ => ⟨S2x8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_1_scv : Ref sig .scVector := ⟨.hbm, 5, rfl⟩
abbrev main_v3_0_scv : Ref sig .scVector := ⟨.hbm, 6, rfl⟩
abbrev main_v3_1_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_16_r0 : BitVec 32 := 0#32
  ![v2.toNat, 0]
@[reducible] def k1_t1_loop : Scf.Loop 32 :=
  let c0_i32 : BitVec 32 := 0#32
  let c512_i32 : BitVec 32 := 512#32
  let v6 : BitVec 32 := Scalar.addi c0_i32 c512_i32
  let c1_i32 : BitVec 32 := 1#32
  ⟨c0_i32, v6, c1_i32⟩
def k1_off2 (k1_t1 : Fin k1_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k1_t1
  let c1_i32_16 : BitVec 32 := 1#32
  let v38 : BitVec 32 := Scalar.muli arg10 c1_i32_16
  let v39 : BitVec 32 := Scalar.addi c0_i32_17 v38
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c2_i32_18 : BitVec 32 := 2#32
  let c0_i32_21 : BitVec 32 := 0#32
  let v46 : BitVec 1 := Scalar.cmpi .sgt c2_i32_18 c0_i32_21
  let v47 : BitVec 32 := Scalar.extui v46
  let c0_i32_22 : BitVec 32 := 0#32
  let v48 : BitVec 1 := Scalar.cmpi .slt c2_i32_18 c0_i32_22
  let v49 : BitVec 32 := Scalar.extui v48
  let v50 : BitVec 32 := Scalar.subi v47 v49
  let v51 : BitVec 1 := Scalar.cmpi .ne v45 v50
  let v52 : BitVec 32 := Scalar.remsi v39 c2_i32_18
  let c0_i32_23 : BitVec 32 := 0#32
  let v53 : BitVec 1 := Scalar.cmpi .ne v52 c0_i32_23
  let v54 : BitVec 1 := Scalar.andi v51 v53
  let v40 : BitVec 32 := Scalar.divsi v39 c2_i32_18
  let c1_i32_24 : BitVec 32 := 1#32
  let v55 : BitVec 32 := Scalar.subi v40 c1_i32_24
  let v56 : BitVec 32 := Scalar.select v54 v55 v40
  let v71 : Index := Scalar.indexCast v56
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v39 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c64_i32 : BitVec 32 := 64#32
  let v69 : BitVec 32 := Scalar.muli v66 c64_i32
  let c0_i32_32 : BitVec 32 := 0#32
  let v70 : BitVec 32 := Scalar.addi v69 c0_i32_32
  let v72 : Index := Scalar.indexCast v70
  ![v71.toNat, v72.toNat]
@[reducible] def k1_t2_loop : Scf.Loop 32 :=
  let c0_i32_35 : BitVec 32 := 0#32
  let c16_i32 : BitVec 32 := 16#32
  let v78 : BitVec 32 := Scalar.addi c0_i32_35 c16_i32
  let c1_i32_36 : BitVec 32 := 1#32
  ⟨c0_i32_35, v78, c1_i32_36⟩

def k1_chk1 (v310 : IVec S16 32) : Prop :=
  (∀ a x, ((![v310] : Fin 1 → IVec S16 32) a x).toNat < S16.size a)
theorem k1_idx1_inb : ∀ (v310 : IVec S16 32) (k1_hw1 : k1_chk1 v310), ∀ a x, ((![v310] : Fin 1 → IVec S16 32) a x).toNat < S16.size a := fun v310 k1_hw1 => k1_hw1

def k1_chk2 (v81 : IVec S16 32) : Prop :=
  (∀ a x, ((![v81] : Fin 1 → IVec S16 32) a x).toNat < S16.size a) ∧
  (∀ a x, ((![v81] : Fin 1 → IVec S16 32) a x).toNat < S16.size a)
theorem k1_idx2_inb : ∀ (v81 : IVec S16 32) (k1_hw2 : k1_chk2 v81), ∀ a x, ((![v81] : Fin 1 → IVec S16 32) a x).toNat < S16.size a := fun v81 k1_hw2 => k1_hw2.1
theorem k1_idx3_inb : ∀ (v81 : IVec S16 32) (k1_hw2 : k1_chk2 v81), ∀ a x, ((![v81] : Fin 1 → IVec S16 32) a x).toNat < S16.size a := fun v81 k1_hw2 => k1_hw2.2
def k1_off3 (k1_t1 : Fin k1_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k1_t1
  let c1_i32_16 : BitVec 32 := 1#32
  let v38 : BitVec 32 := Scalar.muli arg10 c1_i32_16
  let v39 : BitVec 32 := Scalar.addi c0_i32_17 v38
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c2_i32_18 : BitVec 32 := 2#32
  let c0_i32_21 : BitVec 32 := 0#32
  let v46 : BitVec 1 := Scalar.cmpi .sgt c2_i32_18 c0_i32_21
  let v47 : BitVec 32 := Scalar.extui v46
  let c0_i32_22 : BitVec 32 := 0#32
  let v48 : BitVec 1 := Scalar.cmpi .slt c2_i32_18 c0_i32_22
  let v49 : BitVec 32 := Scalar.extui v48
  let v50 : BitVec 32 := Scalar.subi v47 v49
  let v51 : BitVec 1 := Scalar.cmpi .ne v45 v50
  let v52 : BitVec 32 := Scalar.remsi v39 c2_i32_18
  let c0_i32_23 : BitVec 32 := 0#32
  let v53 : BitVec 1 := Scalar.cmpi .ne v52 c0_i32_23
  let v54 : BitVec 1 := Scalar.andi v51 v53
  let v40 : BitVec 32 := Scalar.divsi v39 c2_i32_18
  let c1_i32_24 : BitVec 32 := 1#32
  let v55 : BitVec 32 := Scalar.subi v40 c1_i32_24
  let v56 : BitVec 32 := Scalar.select v54 v55 v40
  let v88 : Index := Scalar.indexCast v56
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v39 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c64_i32_41 : BitVec 32 := 64#32
  let v86 : BitVec 32 := Scalar.muli v66 c64_i32_41
  let c16_i32_42 : BitVec 32 := 16#32
  let v87 : BitVec 32 := Scalar.addi v86 c16_i32_42
  let v89 : Index := Scalar.indexCast v87
  ![v88.toNat, v89.toNat]
@[reducible] def k1_t3_loop : Scf.Loop 32 :=
  let c0_i32_46 : BitVec 32 := 0#32
  let c16_i32_47 : BitVec 32 := 16#32
  let v95 : BitVec 32 := Scalar.addi c0_i32_46 c16_i32_47
  let c1_i32_48 : BitVec 32 := 1#32
  ⟨c0_i32_46, v95, c1_i32_48⟩

def k1_chk3 (v310 : IVec S16 32) : Prop :=
  (∀ a x, ((![v310] : Fin 1 → IVec S16 32) a x).toNat < S16.size a)
theorem k1_idx4_inb : ∀ (v310 : IVec S16 32) (k1_hw3 : k1_chk3 v310), ∀ a x, ((![v310] : Fin 1 → IVec S16 32) a x).toNat < S16.size a := fun v310 k1_hw3 => k1_hw3

def k1_chk4 (v98 : IVec S16 32) : Prop :=
  (∀ a x, ((![v98] : Fin 1 → IVec S16 32) a x).toNat < S16.size a) ∧
  (∀ a x, ((![v98] : Fin 1 → IVec S16 32) a x).toNat < S16.size a)
theorem k1_idx5_inb : ∀ (v98 : IVec S16 32) (k1_hw4 : k1_chk4 v98), ∀ a x, ((![v98] : Fin 1 → IVec S16 32) a x).toNat < S16.size a := fun v98 k1_hw4 => k1_hw4.1
theorem k1_idx6_inb : ∀ (v98 : IVec S16 32) (k1_hw4 : k1_chk4 v98), ∀ a x, ((![v98] : Fin 1 → IVec S16 32) a x).toNat < S16.size a := fun v98 k1_hw4 => k1_hw4.2
def k1_off4 (k1_t1 : Fin k1_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k1_t1
  let c1_i32_16 : BitVec 32 := 1#32
  let v38 : BitVec 32 := Scalar.muli arg10 c1_i32_16
  let v39 : BitVec 32 := Scalar.addi c0_i32_17 v38
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c2_i32_18 : BitVec 32 := 2#32
  let c0_i32_21 : BitVec 32 := 0#32
  let v46 : BitVec 1 := Scalar.cmpi .sgt c2_i32_18 c0_i32_21
  let v47 : BitVec 32 := Scalar.extui v46
  let c0_i32_22 : BitVec 32 := 0#32
  let v48 : BitVec 1 := Scalar.cmpi .slt c2_i32_18 c0_i32_22
  let v49 : BitVec 32 := Scalar.extui v48
  let v50 : BitVec 32 := Scalar.subi v47 v49
  let v51 : BitVec 1 := Scalar.cmpi .ne v45 v50
  let v52 : BitVec 32 := Scalar.remsi v39 c2_i32_18
  let c0_i32_23 : BitVec 32 := 0#32
  let v53 : BitVec 1 := Scalar.cmpi .ne v52 c0_i32_23
  let v54 : BitVec 1 := Scalar.andi v51 v53
  let v40 : BitVec 32 := Scalar.divsi v39 c2_i32_18
  let c1_i32_24 : BitVec 32 := 1#32
  let v55 : BitVec 32 := Scalar.subi v40 c1_i32_24
  let v56 : BitVec 32 := Scalar.select v54 v55 v40
  let v105 : Index := Scalar.indexCast v56
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v39 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c64_i32_53 : BitVec 32 := 64#32
  let v103 : BitVec 32 := Scalar.muli v66 c64_i32_53
  let c32_i32_54 : BitVec 32 := 32#32
  let v104 : BitVec 32 := Scalar.addi v103 c32_i32_54
  let v106 : Index := Scalar.indexCast v104
  ![v105.toNat, v106.toNat]
@[reducible] def k1_t4_loop : Scf.Loop 32 :=
  let c0_i32_58 : BitVec 32 := 0#32
  let c16_i32_59 : BitVec 32 := 16#32
  let v112 : BitVec 32 := Scalar.addi c0_i32_58 c16_i32_59
  let c1_i32_60 : BitVec 32 := 1#32
  ⟨c0_i32_58, v112, c1_i32_60⟩

def k1_chk5 (v310 : IVec S16 32) : Prop :=
  (∀ a x, ((![v310] : Fin 1 → IVec S16 32) a x).toNat < S16.size a)
theorem k1_idx7_inb : ∀ (v310 : IVec S16 32) (k1_hw5 : k1_chk5 v310), ∀ a x, ((![v310] : Fin 1 → IVec S16 32) a x).toNat < S16.size a := fun v310 k1_hw5 => k1_hw5

def k1_chk6 (v115 : IVec S16 32) : Prop :=
  (∀ a x, ((![v115] : Fin 1 → IVec S16 32) a x).toNat < S16.size a) ∧
  (∀ a x, ((![v115] : Fin 1 → IVec S16 32) a x).toNat < S16.size a)
theorem k1_idx8_inb : ∀ (v115 : IVec S16 32) (k1_hw6 : k1_chk6 v115), ∀ a x, ((![v115] : Fin 1 → IVec S16 32) a x).toNat < S16.size a := fun v115 k1_hw6 => k1_hw6.1
theorem k1_idx9_inb : ∀ (v115 : IVec S16 32) (k1_hw6 : k1_chk6 v115), ∀ a x, ((![v115] : Fin 1 → IVec S16 32) a x).toNat < S16.size a := fun v115 k1_hw6 => k1_hw6.2
def k1_off5 (k1_t1 : Fin k1_t1_loop.trips) : Fin 2 → Nat :=
  let c0_i32_17 : BitVec 32 := 0#32
  let c0_i32 : BitVec 32 := 0#32
  let c1_i32 : BitVec 32 := 1#32
  let arg10 : BitVec 32 := Scf.iv c0_i32 c1_i32 k1_t1
  let c1_i32_16 : BitVec 32 := 1#32
  let v38 : BitVec 32 := Scalar.muli arg10 c1_i32_16
  let v39 : BitVec 32 := Scalar.addi c0_i32_17 v38
  let c0_i32_19 : BitVec 32 := 0#32
  let v41 : BitVec 1 := Scalar.cmpi .sgt v39 c0_i32_19
  let v42 : BitVec 32 := Scalar.extui v41
  let c0_i32_20 : BitVec 32 := 0#32
  let v43 : BitVec 1 := Scalar.cmpi .slt v39 c0_i32_20
  let v44 : BitVec 32 := Scalar.extui v43
  let v45 : BitVec 32 := Scalar.subi v42 v44
  let c2_i32_18 : BitVec 32 := 2#32
  let c0_i32_21 : BitVec 32 := 0#32
  let v46 : BitVec 1 := Scalar.cmpi .sgt c2_i32_18 c0_i32_21
  let v47 : BitVec 32 := Scalar.extui v46
  let c0_i32_22 : BitVec 32 := 0#32
  let v48 : BitVec 1 := Scalar.cmpi .slt c2_i32_18 c0_i32_22
  let v49 : BitVec 32 := Scalar.extui v48
  let v50 : BitVec 32 := Scalar.subi v47 v49
  let v51 : BitVec 1 := Scalar.cmpi .ne v45 v50
  let v52 : BitVec 32 := Scalar.remsi v39 c2_i32_18
  let c0_i32_23 : BitVec 32 := 0#32
  let v53 : BitVec 1 := Scalar.cmpi .ne v52 c0_i32_23
  let v54 : BitVec 1 := Scalar.andi v51 v53
  let v40 : BitVec 32 := Scalar.divsi v39 c2_i32_18
  let c1_i32_24 : BitVec 32 := 1#32
  let v55 : BitVec 32 := Scalar.subi v40 c1_i32_24
  let v56 : BitVec 32 := Scalar.select v54 v55 v40
  let v122 : Index := Scalar.indexCast v56
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v39 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let c64_i32_65 : BitVec 32 := 64#32
  let v120 : BitVec 32 := Scalar.muli v66 c64_i32_65
  let c48_i32_66 : BitVec 32 := 48#32
  let v121 : BitVec 32 := Scalar.addi v120 c48_i32_66
  let v123 : Index := Scalar.indexCast v121
  ![v122.toNat, v123.toNat]
@[reducible] def k1_t5_loop : Scf.Loop 32 :=
  let c0_i32_70 : BitVec 32 := 0#32
  let c16_i32_71 : BitVec 32 := 16#32
  let v129 : BitVec 32 := Scalar.addi c0_i32_70 c16_i32_71
  let c1_i32_72 : BitVec 32 := 1#32
  ⟨c0_i32_70, v129, c1_i32_72⟩

def k1_chk7 (v310 : IVec S16 32) : Prop :=
  (∀ a x, ((![v310] : Fin 1 → IVec S16 32) a x).toNat < S16.size a)
theorem k1_idx10_inb : ∀ (v310 : IVec S16 32) (k1_hw7 : k1_chk7 v310), ∀ a x, ((![v310] : Fin 1 → IVec S16 32) a x).toNat < S16.size a := fun v310 k1_hw7 => k1_hw7

def k1_chk8 (v132 : IVec S16 32) : Prop :=
  (∀ a x, ((![v132] : Fin 1 → IVec S16 32) a x).toNat < S16.size a) ∧
  (∀ a x, ((![v132] : Fin 1 → IVec S16 32) a x).toNat < S16.size a)
theorem k1_idx11_inb : ∀ (v132 : IVec S16 32) (k1_hw8 : k1_chk8 v132), ∀ a x, ((![v132] : Fin 1 → IVec S16 32) a x).toNat < S16.size a := fun v132 k1_hw8 => k1_hw8.1
theorem k1_idx12_inb : ∀ (v132 : IVec S16 32) (k1_hw8 : k1_chk8 v132), ∀ a x, ((![v132] : Fin 1 → IVec S16 32) a x).toNat < S16.size a := fun v132 k1_hw8 => k1_hw8.2

def k1_chk9 (v138 : IVec S16 32) : Prop :=
  (∀ a x, ((![v138] : Fin 1 → IVec S16 32) a x).toNat < S16.size a)
theorem k1_idx13_inb : ∀ (v138 : IVec S16 32) (k1_hw9 : k1_chk9 v138), ∀ a x, ((![v138] : Fin 1 → IVec S16 32) a x).toNat < S16.size a := fun v138 k1_hw9 => k1_hw9

def k1_chk10 (v143 : IVec S16 32) : Prop :=
  (∀ a x, ((![v143] : Fin 1 → IVec S16 32) a x).toNat < S16.size a)
theorem k1_idx14_inb : ∀ (v143 : IVec S16 32) (k1_hw10 : k1_chk10 v143), ∀ a x, ((![v143] : Fin 1 → IVec S16 32) a x).toNat < S16.size a := fun v143 k1_hw10 => k1_hw10
@[reducible] def k1_t6_loop : Scf.Loop 32 :=
  let c0_i32_84 : BitVec 32 := 0#32
  let c16_i32_85 : BitVec 32 := 16#32
  let v152 : BitVec 32 := Scalar.addi c0_i32_84 c16_i32_85
  let c1_i32_86 : BitVec 32 := 1#32
  ⟨c0_i32_84, v152, c1_i32_86⟩

def k1_chk11 (v310 : IVec S16 32) : Prop :=
  (∀ a x, ((![v310] : Fin 1 → IVec S16 32) a x).toNat < S16.size a)
theorem k1_idx15_inb : ∀ (v310 : IVec S16 32) (k1_hw11 : k1_chk11 v310), ∀ a x, ((![v310] : Fin 1 → IVec S16 32) a x).toNat < S16.size a := fun v310 k1_hw11 => k1_hw11

def k1_chk12 (v155 : IVec S16 32) : Prop :=
  (∀ a x, ((![v155] : Fin 1 → IVec S16 32) a x).toNat < S16.size a) ∧
  (∀ a x, ((![v155] : Fin 1 → IVec S16 32) a x).toNat < S16.size a)
theorem k1_idx16_inb : ∀ (v155 : IVec S16 32) (k1_hw12 : k1_chk12 v155), ∀ a x, ((![v155] : Fin 1 → IVec S16 32) a x).toNat < S16.size a := fun v155 k1_hw12 => k1_hw12.1
theorem k1_idx17_inb : ∀ (v155 : IVec S16 32) (k1_hw12 : k1_chk12 v155), ∀ a x, ((![v155] : Fin 1 → IVec S16 32) a x).toNat < S16.size a := fun v155 k1_hw12 => k1_hw12.2

def k1_chk13 (v161 : IVec S16 32) : Prop :=
  (∀ a x, ((![v161] : Fin 1 → IVec S16 32) a x).toNat < S16.size a)
theorem k1_idx18_inb : ∀ (v161 : IVec S16 32) (k1_hw13 : k1_chk13 v161), ∀ a x, ((![v161] : Fin 1 → IVec S16 32) a x).toNat < S16.size a := fun v161 k1_hw13 => k1_hw13

def k1_chk14 (v166 : IVec S16 32) : Prop :=
  (∀ a x, ((![v166] : Fin 1 → IVec S16 32) a x).toNat < S16.size a)
theorem k1_idx19_inb : ∀ (v166 : IVec S16 32) (k1_hw14 : k1_chk14 v166), ∀ a x, ((![v166] : Fin 1 → IVec S16 32) a x).toNat < S16.size a := fun v166 k1_hw14 => k1_hw14
@[reducible] def k1_t7_loop : Scf.Loop 32 :=
  let c0_i32_98 : BitVec 32 := 0#32
  let c16_i32_99 : BitVec 32 := 16#32
  let v175 : BitVec 32 := Scalar.addi c0_i32_98 c16_i32_99
  let c1_i32_100 : BitVec 32 := 1#32
  ⟨c0_i32_98, v175, c1_i32_100⟩

def k1_chk15 (v310 : IVec S16 32) : Prop :=
  (∀ a x, ((![v310] : Fin 1 → IVec S16 32) a x).toNat < S16.size a)
theorem k1_idx20_inb : ∀ (v310 : IVec S16 32) (k1_hw15 : k1_chk15 v310), ∀ a x, ((![v310] : Fin 1 → IVec S16 32) a x).toNat < S16.size a := fun v310 k1_hw15 => k1_hw15

def k1_chk16 (v178 : IVec S16 32) : Prop :=
  (∀ a x, ((![v178] : Fin 1 → IVec S16 32) a x).toNat < S16.size a) ∧
  (∀ a x, ((![v178] : Fin 1 → IVec S16 32) a x).toNat < S16.size a)
theorem k1_idx21_inb : ∀ (v178 : IVec S16 32) (k1_hw16 : k1_chk16 v178), ∀ a x, ((![v178] : Fin 1 → IVec S16 32) a x).toNat < S16.size a := fun v178 k1_hw16 => k1_hw16.1
theorem k1_idx22_inb : ∀ (v178 : IVec S16 32) (k1_hw16 : k1_chk16 v178), ∀ a x, ((![v178] : Fin 1 → IVec S16 32) a x).toNat < S16.size a := fun v178 k1_hw16 => k1_hw16.2

def k1_chk17 (v184 : IVec S16 32) : Prop :=
  (∀ a x, ((![v184] : Fin 1 → IVec S16 32) a x).toNat < S16.size a)
theorem k1_idx23_inb : ∀ (v184 : IVec S16 32) (k1_hw17 : k1_chk17 v184), ∀ a x, ((![v184] : Fin 1 → IVec S16 32) a x).toNat < S16.size a := fun v184 k1_hw17 => k1_hw17

def k1_chk18 (v189 : IVec S16 32) : Prop :=
  (∀ a x, ((![v189] : Fin 1 → IVec S16 32) a x).toNat < S16.size a)
theorem k1_idx24_inb : ∀ (v189 : IVec S16 32) (k1_hw18 : k1_chk18 v189), ∀ a x, ((![v189] : Fin 1 → IVec S16 32) a x).toNat < S16.size a := fun v189 k1_hw18 => k1_hw18
@[reducible] def k1_t8_loop : Scf.Loop 32 :=
  let c0_i32_112 : BitVec 32 := 0#32
  let c16_i32_113 : BitVec 32 := 16#32
  let v198 : BitVec 32 := Scalar.addi c0_i32_112 c16_i32_113
  let c1_i32_114 : BitVec 32 := 1#32
  ⟨c0_i32_112, v198, c1_i32_114⟩

def k1_chk19 (v310 : IVec S16 32) : Prop :=
  (∀ a x, ((![v310] : Fin 1 → IVec S16 32) a x).toNat < S16.size a)
theorem k1_idx25_inb : ∀ (v310 : IVec S16 32) (k1_hw19 : k1_chk19 v310), ∀ a x, ((![v310] : Fin 1 → IVec S16 32) a x).toNat < S16.size a := fun v310 k1_hw19 => k1_hw19

def k1_chk20 (v201 : IVec S16 32) : Prop :=
  (∀ a x, ((![v201] : Fin 1 → IVec S16 32) a x).toNat < S16.size a) ∧
  (∀ a x, ((![v201] : Fin 1 → IVec S16 32) a x).toNat < S16.size a)
theorem k1_idx26_inb : ∀ (v201 : IVec S16 32) (k1_hw20 : k1_chk20 v201), ∀ a x, ((![v201] : Fin 1 → IVec S16 32) a x).toNat < S16.size a := fun v201 k1_hw20 => k1_hw20.1
theorem k1_idx27_inb : ∀ (v201 : IVec S16 32) (k1_hw20 : k1_chk20 v201), ∀ a x, ((![v201] : Fin 1 → IVec S16 32) a x).toNat < S16.size a := fun v201 k1_hw20 => k1_hw20.2

def k1_chk21 (v307 : IVec S16 32) (v309 : IVec S16 32) : Prop :=
  (∀ a x, ((![v309, v307] : Fin 2 → IVec S16 32) a x).toNat < S8x517.size a) ∧
  (∀ a x, ((![v309, v307] : Fin 2 → IVec S16 32) a x).toNat < S8x517.size a)
theorem k1_idx28_inb : ∀ (v307 : IVec S16 32) (v309 : IVec S16 32) (k1_hw21 : k1_chk21 v307 v309), ∀ a x, ((![v309, v307] : Fin 2 → IVec S16 32) a x).toNat < S8x517.size a := fun v307 v309 k1_hw21 => k1_hw21.1
theorem k1_idx29_inb : ∀ (v307 : IVec S16 32) (v309 : IVec S16 32) (k1_hw21 : k1_chk21 v307 v309), ∀ a x, ((![v309, v307] : Fin 2 → IVec S16 32) a x).toNat < S8x517.size a := fun v307 v309 k1_hw21 => k1_hw21.2
def k1_off6 (i : grid1.Coords) : Fin 2 → Nat :=
  let c0_i32_18_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let v8 : BitVec 1 := Scalar.cmpi .sgt v1 c0_i32_2
  let v9 : BitVec 32 := Scalar.extui v8
  let c0_i32_3 : BitVec 32 := 0#32
  let v10 : BitVec 1 := Scalar.cmpi .slt v1 c0_i32_3
  let v11 : BitVec 32 := Scalar.extui v10
  let v12 : BitVec 32 := Scalar.subi v9 v11
  let c2_i32_1 : BitVec 32 := 2#32
  let c0_i32_4 : BitVec 32 := 0#32
  let v13 : BitVec 1 := Scalar.cmpi .sgt c2_i32_1 c0_i32_4
  let v14 : BitVec 32 := Scalar.extui v13
  let c0_i32_5 : BitVec 32 := 0#32
  let v15 : BitVec 1 := Scalar.cmpi .slt c2_i32_1 c0_i32_5
  let v16 : BitVec 32 := Scalar.extui v15
  let v17 : BitVec 32 := Scalar.subi v14 v16
  let v18 : BitVec 1 := Scalar.cmpi .ne v12 v17
  let v19 : BitVec 32 := Scalar.remsi v1 c2_i32_1
  let c0_i32_6 : BitVec 32 := 0#32
  let v20 : BitVec 1 := Scalar.cmpi .ne v19 c0_i32_6
  let v21 : BitVec 1 := Scalar.andi v18 v20
  let v7 : BitVec 32 := Scalar.divsi v1 c2_i32_1
  let c1_i32_7 : BitVec 32 := 1#32
  let v22 : BitVec 32 := Scalar.subi v7 c1_i32_7
  let v23 : BitVec 32 := Scalar.select v21 v22 v7
  let c1024_i32 : BitVec 32 := 1024#32
  let v24 : BitVec 32 := Scalar.muli v23 c1024_i32
  let c2_i32_8 : BitVec 32 := 2#32
  let c0_i32_9 : BitVec 32 := 0#32
  let v25 : BitVec 1 := Scalar.cmpi .eq c2_i32_8 c0_i32_9
  let c1_i32_10 : BitVec 32 := 1#32
  let v26 : BitVec 32 := Scalar.select v25 c1_i32_10 c2_i32_8
  let v27 : BitVec 32 := Scalar.remsi v1 v26
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let c0_i32_11 : BitVec 32 := 0#32
  let v28 : BitVec 1 := Scalar.cmpi .ne v27 c0_i32_11
  let v32 : BitVec 1 := Scalar.andi v31 v28
  let v33 : BitVec 32 := Scalar.addi v27 v26
  let v34 : BitVec 32 := Scalar.select v32 v33 v27
  let c256_i32_14 : BitVec 32 := 256#32
  let v35 : BitVec 32 := Scalar.muli v34 c256_i32_14
  let v36 : BitVec 32 := Scalar.addi v24 v35
  ![0, v36.toNat]
def k1_off7 (i : grid1.Coords) : Fin 2 → Nat :=
  let c0_i32_18_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let v8 : BitVec 1 := Scalar.cmpi .sgt v1 c0_i32_2
  let v9 : BitVec 32 := Scalar.extui v8
  let c0_i32_3 : BitVec 32 := 0#32
  let v10 : BitVec 1 := Scalar.cmpi .slt v1 c0_i32_3
  let v11 : BitVec 32 := Scalar.extui v10
  let v12 : BitVec 32 := Scalar.subi v9 v11
  let c2_i32_1 : BitVec 32 := 2#32
  let c0_i32_4 : BitVec 32 := 0#32
  let v13 : BitVec 1 := Scalar.cmpi .sgt c2_i32_1 c0_i32_4
  let v14 : BitVec 32 := Scalar.extui v13
  let c0_i32_5 : BitVec 32 := 0#32
  let v15 : BitVec 1 := Scalar.cmpi .slt c2_i32_1 c0_i32_5
  let v16 : BitVec 32 := Scalar.extui v15
  let v17 : BitVec 32 := Scalar.subi v14 v16
  let v18 : BitVec 1 := Scalar.cmpi .ne v12 v17
  let v19 : BitVec 32 := Scalar.remsi v1 c2_i32_1
  let c0_i32_6 : BitVec 32 := 0#32
  let v20 : BitVec 1 := Scalar.cmpi .ne v19 c0_i32_6
  let v21 : BitVec 1 := Scalar.andi v18 v20
  let v7 : BitVec 32 := Scalar.divsi v1 c2_i32_1
  let c1_i32_7 : BitVec 32 := 1#32
  let v22 : BitVec 32 := Scalar.subi v7 c1_i32_7
  let v23 : BitVec 32 := Scalar.select v21 v22 v7
  let c1024_i32 : BitVec 32 := 1024#32
  let v24 : BitVec 32 := Scalar.muli v23 c1024_i32
  let c2_i32_8 : BitVec 32 := 2#32
  let c0_i32_9 : BitVec 32 := 0#32
  let v25 : BitVec 1 := Scalar.cmpi .eq c2_i32_8 c0_i32_9
  let c1_i32_10 : BitVec 32 := 1#32
  let v26 : BitVec 32 := Scalar.select v25 c1_i32_10 c2_i32_8
  let v27 : BitVec 32 := Scalar.remsi v1 v26
  let c0_i32_12 : BitVec 32 := 0#32
  let v29 : BitVec 1 := Scalar.cmpi .slt v27 c0_i32_12
  let c0_i32_13 : BitVec 32 := 0#32
  let v30 : BitVec 1 := Scalar.cmpi .slt v26 c0_i32_13
  let v31 : BitVec 1 := Scalar.xori v29 v30
  let c0_i32_11 : BitVec 32 := 0#32
  let v28 : BitVec 1 := Scalar.cmpi .ne v27 c0_i32_11
  let v32 : BitVec 1 := Scalar.andi v31 v28
  let v33 : BitVec 32 := Scalar.addi v27 v26
  let v34 : BitVec 32 := Scalar.select v32 v33 v27
  let c256_i32_14 : BitVec 32 := 256#32
  let v35 : BitVec 32 := Scalar.muli v34 c256_i32_14
  let v36 : BitVec 32 := Scalar.addi v24 v35
  let c512_i32_15 : BitVec 32 := 512#32
  let v37 : BitVec 32 := Scalar.addi v36 c512_i32_15
  ![0, v37.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192x4096 : Shape := ⟨3, ![2, 8192, 4096]⟩
abbrev S64x4096 : Shape := ⟨2, ![64, 4096]⟩
abbrev S16384x4096 : Shape := ⟨2, ![16384, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S64x4096, .f32⟩
  | .hbm, ⟨2, _⟩ => ⟨S16384x4096, .f32⟩
  | .hbm, ⟨3, _⟩ => ⟨S4096x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x8, .f32⟩
  | .hbm, ⟨25, _⟩ => ⟨S16384x8, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Trip.lean ====
/-
  One trip of the SparseCore kernel's loop, as a program made of few parts: a sort of sixteen keys with their
  values through two scratch vectors, a reversal through one, a merge of two sorted halves made of these, and the
  trip, which sorts four chunks of a row, merges them pairwise and scatters one column of each result.
  `body_eq` says the printed region is this program.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.Router

open Cert.KernelIdeal Cert.KernelIdeal.Gen
open Idealize.ShloMosaic
open Idealize.SL Idealize.SL.Sem

variable {F : FTy → Type} [FloatOps F]

/-- Programs of the vector subcore that runs grid point `i`. -/
abbrev TProg (F : FTy → Type) [FloatOps F] (i : grid1.Coords) (α : Type) :=
  Prog (TpuEff nD τ sig (Elt F) Λ₀ (.scVector ((i 0).castLE hcore1) ((i 1).castLE hsub1))) α

/-- The sixteen lane numbers. -/
abbrev lanes : IVec S16 32 := iota .scVector S16 32 [0] iota_S16_d0_w32_scVector

section Parts

variable (i : grid1.Coords) {e : EltTy}

/-- All sixteen lanes of a scratch vector. -/
def ld (m : Memref sig .scVector .vmem S16 e) : TProg F i (Vec F S16 e) :=
  Prog.lift (.load m (Rect.unit (s := S16) ![0] S16.size inb_S16_S16_0).toLoadRect (View.loadsAt_vmem h_S16))

/-- A float scratch vector overwritten. -/
def stF (m : Memref sig .scVector .vmem S16 .f32) (x : Vec F S16 .f32) : TProg F i PUnit :=
  Prog.lift (.store m (Rect.unit (s := S16) ![0] S16.size inb_S16_S16_0) x Finset.univ (View.stores_vmem_bits_univ h_S16 rfl) (.inl rfl))

/-- An integer scratch vector overwritten. -/
def stI (m : Memref sig .scVector .vmem S16 .i32) (x : Vec F S16 .i32) : TProg F i PUnit :=
  Prog.lift (.store m (Rect.unit (s := S16) ![0] S16.size inb_S16_S16_0) x Finset.univ (View.stores_vmem_bits_univ h_S16 rfl) (.inl rfl))

/-- The gather of a scratch vector's lanes at the indices `v`. -/
def gat (m : Memref sig .scVector .vmem S16 e) (v : IVec S16 32) : TProg F i (Vec F S16 e) := do
  have hw : k1_chk1 v := (← Prog.lift (TpuEff.assume (k1_chk1 v) (k1_chk1.dec v))).down
  SparseCore.vectorLoadIdx m ![v] (k1_idx1_inb v hw) (View.loads_vmem h_S16)

variable (m8 : Memref sig .scVector .vmem S16 .f32) (m9 : Memref sig .scVector .vmem S16 .i32)

/-- One comparison step of every lane's rank. -/
def stepP (k : Vec F S16 .f32) (t : Fin k1_t2_loop.trips) (acc : IVec S16 32) : TProg F i (IVec S16 32) := do
  let x ← gat i m8 (broadcast S16 (Scf.iv 0#32 1#32 t))
  pure (k1_pay4 k lanes t acc x)

/-- The scatter of keys and values to their ranks, and the reading back of both. -/
def scatP (k : Vec F S16 .f32) (v : Vec F S16 .i32) (r : IVec S16 32) : TProg F i (Vec F S16 .f32 × Vec F S16 .i32) := do
  have hw : k1_chk2 r := (← Prog.lift (TpuEff.assume (k1_chk2 r) (k1_chk2.dec r))).down
  SparseCore.vectorStoreIdx m8 ![r] k (fun _ => 1#1) false (k1_idx2_inb r hw) (View.stores_vmem_bits_univ h_S16 rfl)
  SparseCore.vectorStoreIdx m9 ![r] v (fun _ => 1#1) false (k1_idx3_inb r hw) (View.stores_vmem_bits_univ h_S16 rfl)
  let a ← ld i m8
  let b ← ld i m9
  pure (a, b)

/-- The sort of sixteen keys with their values. -/
def sortP (k : Vec F S16 .f32) (v : Vec F S16 .i32) : TProg F i (Vec F S16 .f32 × Vec F S16 .i32) := do
  let _ ← ld i m8
  stF i m8 k
  let _ ← ld i m9
  stI i m9 v
  let r ← Scf.Loop.for k1_t2_loop k1_t2_ok k1_pay3 (stepP i m8 k)
  scatP i m8 m9 k v (k1_pay5 r)

/-- A float vector reversed. -/
def revF (x : Vec F S16 .f32) : TProg F i (Vec F S16 .f32) := do
  let _ ← ld i m8
  stF i m8 x
  gat i m8 k1_pay21

/-- An integer vector reversed. -/
def revI (x : Vec F S16 .i32) : TProg F i (Vec F S16 .i32) := do
  let _ ← ld i m9
  stI i m9 x
  gat i m9 k1_pay21

/-- The sixteen greatest of two sorted sixteens, sorted. -/
def mergeP (a : Vec F S16 .f32 × Vec F S16 .i32) (b : Vec F S16 .f32 × Vec F S16 .i32) :
    TProg F i (Vec F S16 .f32 × Vec F S16 .i32) := do
  let br ← revF i m8 b.1
  let bi ← revI i m9 b.2
  sortP i m8 m9 (k1_pay24 a.1 br) (k1_pay25 a.1 a.2 br bi)

variable (m5 : Memref sig .scVector .vmem S256x128 .f32)
  (m6 : Memref sig .scVector .vmem S8x517 .f32) (m7 : Memref sig .scVector .vmem S8x517 .i32)

/-- Sixteen entries of the slab. -/
def chunk (off : Fin 2 → Nat) (hoff : ∀ a, off a + S1x16.size a ≤ S256x128.size a) : TProg F i (Vec F S16 .f32) := do
  let x : Vec F S1x16 .f32 ← Prog.lift (.load m5 (Rect.unit (s := S256x128) off S1x16.size hoff).toLoadRect (View.loadsAt_vmem h_S1x16))
  pure (k1_pay2 x)

/-- The column of both results that trip writes. -/
def outP (c : BitVec 32) (w : Vec F S16 .f32) (ti : Vec F S16 .i32) : TProg F i Unit := do
  have hw : k1_chk21 (broadcast S16 c) k1_pay52 := (← Prog.lift (TpuEff.assume (k1_chk21 (broadcast S16 c) k1_pay52) (k1_chk21.dec (broadcast S16 c) k1_pay52))).down
  SparseCore.vectorStoreIdx m6 ![k1_pay52, broadcast S16 c] w k1_pay50 false (k1_idx28_inb (broadcast S16 c) k1_pay52 hw) (View.stores_vmem_bits_univ h_S8x517 rfl)
  SparseCore.vectorStoreIdx m7 ![k1_pay52, broadcast S16 c] ti k1_pay50 false (k1_idx29_inb (broadcast S16 c) k1_pay52 hw) (View.stores_vmem_bits_univ h_S8x517 rfl)
  pure ⟨⟩

/-- The trip's number, as the kernel computes it. -/
def tripNo (t : Fin k1_t1_loop.trips) : BitVec 32 := Scalar.addi 0#32 (Scalar.muli (Scf.iv 0#32 1#32 t) 1#32)

/-- Floor division of 32-bit words, as the kernel computes it. -/
def fdiv (a b : BitVec 32) : BitVec 32 :=
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The remainder of floor division of 32-bit words, as the kernel computes it. -/
def fmod (a b : BitVec 32) : BitVec 32 :=
  Scalar.select (Scalar.andi
      (Scalar.xori (Scalar.cmpi .slt (Scalar.remsi a (Scalar.select (Scalar.cmpi .eq b 0#32) 1#32 b)) 0#32)
        (Scalar.cmpi .slt (Scalar.select (Scalar.cmpi .eq b 0#32) 1#32 b) 0#32))
      (Scalar.cmpi .ne (Scalar.remsi a (Scalar.select (Scalar.cmpi .eq b 0#32) 1#32 b)) 0#32))
    (Scalar.addi (Scalar.remsi a (Scalar.select (Scalar.cmpi .eq b 0#32) 1#32 b)) (Scalar.select (Scalar.cmpi .eq b 0#32) 1#32 b))
    (Scalar.remsi a (Scalar.select (Scalar.cmpi .eq b 0#32) 1#32 b))

/-- The column of the scratch results that trip `t` writes. -/
def colW (t : Fin k1_t1_loop.trips) : BitVec 32 :=
  Scalar.addi (Scalar.muli (fmod (tripNo t) 2#32) 256#32) (fdiv (tripNo t) 2#32)

/-- The weights of a row from its sixteen greatest logits, as the kernel computes them. -/
def wRow (t : Vec F S16 .f32) : FVec F S16 .f32 :=
  k1_pay51 (k1_pay47 k1_pay50 t (k1_pay45 t) (k1_pay46 t)) (k1_pay48 k1_pay50 t (k1_pay45 t) (k1_pay46 t))
    (k1_pay49 k1_pay50 t (k1_pay45 t) (k1_pay46 t))

/-- Trip `t`: the row's four chunks sorted, merged pairwise, and the row's column written. -/
def tripP (t : Fin k1_t1_loop.trips) : TProg F i Unit := do
  let x0 ← chunk i m5 (k1_off2 t) (k1_off2_inb t)
  let c0 ← sortP i m8 m9 x0 (k1_pay1 lanes)
  let x1 ← chunk i m5 (k1_off3 t) (k1_off3_inb t)
  let c1 ← sortP i m8 m9 x1 (k1_pay6 lanes)
  let x2 ← chunk i m5 (k1_off4 t) (k1_off4_inb t)
  let c2 ← sortP i m8 m9 x2 (k1_pay11 lanes)
  let x3 ← chunk i m5 (k1_off5 t) (k1_off5_inb t)
  let c3 ← sortP i m8 m9 x3 (k1_pay16 lanes)
  let a ← mergeP i m8 m9 c0 c1
  let b ← mergeP i m8 m9 c2 c3
  let r ← mergeP i m8 m9 a b
  outP i m6 m7 (colW t) (wRow r.1) r.2

end Parts

set_option maxRecDepth 65536 in
set_option maxHeartbeats 4000000 in
/-- The printed region of the loop is the trip above. -/
theorem body_eq (i : grid1.Coords) (arg2 : Memref sig .scVector .hbm S8192x128 .f32) (harg2 : arg2.IsWhole) (arg3 : Memref sig .scVector .hbm S8x16384 .f32) (harg3 : arg3.IsWhole) (arg4 : Memref sig .scVector .hbm S8x16384 .i32) (harg4 : arg4.IsWhole) (arg5 : Memref sig .scVector .vmem S256x128 .f32) (harg5 : arg5.IsWhole) (arg6 : Memref sig .scVector .vmem S8x517 .f32) (harg6 : arg6.IsWhole) (arg7 : Memref sig .scVector .vmem S8x517 .i32) (harg7 : arg7.IsWhole) (arg8 : Memref sig .scVector .vmem S16 .f32) (harg8 : arg8.IsWhole) (arg9 : Memref sig .scVector .vmem S16 .i32) (harg9 : arg9.IsWhole) (v38_r0 : DmaSems sig S_) (v38_r1 : DmaSems sig S_) (v38_r2 : DmaSems sig S_) (v38_r3 : DmaSems sig S_) (v38_r4 : DmaSems sig S_)
    (t : Fin k1_t1_loop.trips) (u : Unit) :
    k1_t1_body (F := F) i arg2 harg2 arg3 harg3 arg4 harg4 arg5 harg5 arg6 harg6 arg7 harg7 arg8 harg8 arg9 harg9 v38_r0 v38_r1 v38_r2 v38_r3 v38_r4 lanes t u
      = tripP i arg8 arg9 arg5 arg6 arg7 t := by
  simp only [k1_t1_body, k1_part1_eq_skeleton, k1_part2_eq_skeleton, k1_part3_eq_skeleton, k1_part4_eq_skeleton, k1_part5_eq_skeleton, k1_part6_eq_skeleton, k1_part7_eq_skeleton,
    k1_part1_skel, k1_part2_skel, k1_part3_skel, k1_part4_skel, k1_part5_skel, k1_part6_skel, k1_part7_skel,
    tripP, sortP, mergeP, revF, revI, scatP, chunk, outP, ld, stF, stI, gat, bind_assoc, pure_bind]
  rfl

end Cert.Proof.Router

end
-- ==== Proof.Setup.lean ====
/-
  The program as the launch theorem sees it, the resource algebra of its proof, and the buffers of one vector
  subcore's task by name.
-/
module

public import proofs.«01_k».proof.Proof.Trip

@[expose] public section

noncomputable section

namespace Cert.Proof.Router

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The propositions of the proof. -/
abbrev PROP (F : FTy → Type) : Type := sProp (MT nD τ sig (HIx 1) (Elt F) ℕ UU ℕ)

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The task's memrefs and buffers -/

/-- The logits in their blocked layout, and the two results, as the task addresses them; -/
abbrev linV : Memref sig .scVector .hbm S8192x128 .f32 := Memref.whole main_v2_1_scv
abbrev wV : Memref sig .scVector .hbm S8x16384 .f32 := Memref.whole main_v3_0_scv
abbrev iV : Memref sig .scVector .hbm S8x16384 .i32 := Memref.whole main_v3_1_scv
/-- its slab, its two scratch results and the two vectors it sorts through. -/
abbrev slabV : Memref sig .scVector .vmem S256x128 .f32 := Memref.whole cc1_scratch0
abbrev woV : Memref sig .scVector .vmem S8x517 .f32 := Memref.whole cc1_scratch1
abbrev ioV : Memref sig .scVector .vmem S8x517 .i32 := Memref.whole cc1_scratch2
abbrev kV : Memref sig .scVector .vmem S16 .f32 := Memref.whole cc1_scratch3
abbrev vV : Memref sig .scVector .vmem S16 .i32 := Memref.whole cc1_scratch4

abbrev cV (L : grid1.Coords) : Fin τ.nSC := (L 0).castLE hcore1
abbrev jV (L : grid1.Coords) : Fin τ.nSub := (L 1).castLE hsub1
/-- The thread of grid point `L`. -/
abbrev thr (d : Dev nD) (L : grid1.Coords) : Thread nD τ := V d (cV L) (jV L)

variable (d : Dev nD) (L : grid1.Coords)

/-- The task's own buffers held whole at given contents. -/
abbrev slabPts (f : Vec F S256x128 .f32) : PROP F := (thr d L).loc cc1_scratch0 ↦{fullShare} f
abbrev woPts (f : Vec F S8x517 .f32) : PROP F := (thr d L).loc cc1_scratch1 ↦{fullShare} f
abbrev ioPts (f : Vec F S8x517 .i32) : PROP F := (thr d L).loc cc1_scratch2 ↦{fullShare} f
abbrev kPts (f : Vec F S16 .f32) : PROP F := (thr d L).loc cc1_scratch3 ↦{fullShare} f
abbrev vPts (f : Vec F S16 .i32) : PROP F := (thr d L).loc cc1_scratch4 ↦{fullShare} f

end Cert.Proof.Router

end
-- ==== Proof.Sort.lean ====
/-
  The sort of sixteen keys with their values: what the two scratch vectors and the results hold after it, as a pure
  function of the keys and the values.
-/
module

public import proofs.«01_k».proof.Proof.Setup

@[expose] public section

noncomputable section

namespace Cert.Proof.Router

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pure functions -/

/-- Lane `j` of a vector of sixteen. -/
def ln (j : Fin 16) : S16.Idx := fun a => j.cast (by match a with | 0 => rfl)

theorem ln_zero (x : S16.Idx) : ln (x 0) = x := by
  funext a; match a with | 0 => rfl

/-- Every lane's rank after `n` comparisons. -/
def rankTo (k : Vec F S16 .f32) : Nat → IVec S16 32
  | 0 => k1_pay3
  | n + 1 => if h : n < 16 then k1_pay4 k lanes ⟨n, h⟩ (rankTo k n) (fun _ => k (ln ⟨n, h⟩)) else rankTo k n

/-- Every lane's rank. -/
def rank (k : Vec F S16 .f32) : IVec S16 32 := k1_pay5 (rankTo k 16)

omit [FloatOps F] in
theorem and15_lt (x : BitVec 32) : (x &&& 15#32).toNat < 16 := by
  rw [BitVec.toNat_and]
  exact Nat.lt_of_le_of_lt Nat.and_le_right (by decide)

omit [FloatOps F] in
theorem size_S16 (a : Fin S16.rank) : S16.size a = 16 := by match a with | 0 => rfl

omit [FloatOps F] in
theorem chk_pay5 (r : IVec S16 32) : ∀ a x, ((![k1_pay5 r] : Fin 1 → IVec S16 32) a x).toNat < S16.size a := by
  intro a x
  rw [size_S16]
  match a with | 0 => exact and15_lt _

/-- The keys sorted. -/
def sortK (k : Vec F S16 .f32) : Vec F S16 .f32 := storeIdx k ![rank k] k (fun _ => 1#1) false (chk_pay5 _)
/-- The values in the order of the sorted keys. -/
def sortV (k : Vec F S16 .f32) (v : Vec F S16 .i32) : Vec F S16 .i32 := storeIdx v ![rank k] v (fun _ => 1#1) false (chk_pay5 _)
/-- The lanes in reverse. -/
def rev {α : Type} (x : S16.Idx → α) : S16.Idx → α := fun i => x (ln (Fin.rev (i 0)))

/-- Two sorted sixteens merged: keys, -/
def mergeK (a b : Vec F S16 .f32) : Vec F S16 .f32 := sortK (k1_pay24 a (rev b))
/-- values. -/
def mergeV (a : Vec F S16 .f32) (ai : Vec F S16 .i32) (b : Vec F S16 .f32) (bi : Vec F S16 .i32) : Vec F S16 .i32 :=
  sortV (k1_pay24 a (rev b)) (k1_pay25 a ai (rev b) (rev bi))

/-! ## Reading and writing the two vectors -/

section Wp

variable (d : Dev nD) (L : grid1.Coords)

/-- The weakest precondition of a task's program. -/
abbrev WPt {α : Type} (p : TProg F L α) (Q : α → PROP F) : PROP F :=
  wp frame (wpE (defs₀ (F := F)) 𝒱₀ (thr d L) none) Set.univ p Q

omit [FloatOps F] in
theorem off0 : (![0] : Fin S16.rank → Nat) = fun _ => 0 := by funext a; match a with | 0 => rfl

omit [FloatOps F] in
theorem rd_whole (b : Ref sig .scVector) (off : Fin b.ty.shape.rank → Nat) (h : off = fun _ => 0) (inb) (f : b.ty.Contents (Elt F)) :
    ((Memref.whole b).access (Rect.unit off b.ty.shape.size inb)).read (Elt F) f = f := by
  subst h; exact Memref.read_access_whole _ _ _

omit [FloatOps F] in
theorem wr_whole (b : Ref sig .scVector) (off : Fin b.ty.shape.rank → Nat) (h : off = fun _ => 0) (inb) (f w : b.ty.Contents (Elt F)) :
    ((Memref.whole b).access (Rect.unit off b.ty.shape.size inb)).write (Elt F) f w Finset.univ = w := by
  subst h; exact Memref.write_access_whole_univ _ _ _ _

omit [FloatOps F] in
theorem rdK (f : Vec F S16 .f32) : (kV.access (Rect.unit (s := S16) ![0] S16.size inb_S16_S16_0)).read (Elt F) f = f :=
  rd_whole cc1_scratch3 _ off0 _ f
omit [FloatOps F] in
theorem rdV (f : Vec F S16 .i32) : (vV.access (Rect.unit (s := S16) ![0] S16.size inb_S16_S16_0)).read (Elt F) f = f :=
  rd_whole cc1_scratch4 _ off0 _ f
omit [FloatOps F] in
theorem wrK (f w : Vec F S16 .f32) : (kV.access (Rect.unit (s := S16) ![0] S16.size inb_S16_S16_0)).write (Elt F) f w Finset.univ = w :=
  wr_whole cc1_scratch3 _ off0 _ f w
omit [FloatOps F] in
theorem wrV (f w : Vec F S16 .i32) : (vV.access (Rect.unit (s := S16) ![0] S16.size inb_S16_S16_0)).write (Elt F) f w Finset.univ = w :=
  wr_whole cc1_scratch4 _ off0 _ f w

omit [FloatOps F] in
theorem setK : (kV.access (Rect.whole S16)).set = (Finset.univ : Finset (Idx ((kV.access (Rect.whole S16)).loc (thr d L)))) :=
  Memref.set_access_whole cc1_scratch3
omit [FloatOps F] in
theorem setV : (vV.access (Rect.whole S16)).set = (Finset.univ : Finset (Idx ((vV.access (Rect.whole S16)).loc (thr d L)))) :=
  Memref.set_access_whole cc1_scratch4
omit [FloatOps F] in
theorem readK (f : Vec F S16 .f32) : (kV.access (Rect.whole S16)).read (Elt F) f = f := Memref.read_access_whole (Elt F) cc1_scratch3 f
omit [FloatOps F] in
theorem readV (f : Vec F S16 .i32) : (vV.access (Rect.whole S16)).read (Elt F) f = f := Memref.read_access_whole (Elt F) cc1_scratch4 f
omit [FloatOps F] in
theorem writeK (f w : Vec F S16 .f32) : (kV.access (Rect.whole S16)).write (Elt F) f w Finset.univ = w := Memref.write_access_whole_univ (Elt F) cc1_scratch3 f w
omit [FloatOps F] in
theorem writeV (f w : Vec F S16 .i32) : (vV.access (Rect.whole S16)).write (Elt F) f w Finset.univ = w := Memref.write_access_whole_univ (Elt F) cc1_scratch4 f w

theorem wpt_bind {α β : Type} (p : TProg F L α) (k : α → TProg F L β) (Q : β → PROP F) :
    WPt d L p (fun a => WPt d L (k a) Q) ⊢ WPt d L (p >>= k) Q := by
  unfold WPt
  rw [wp_bind]

theorem wpt_pure {α : Type} (a : α) (Q : α → PROP F) : Q a ⊢ WPt d L (pure a) Q := by
  unfold WPt
  rw [wp_pure]
  iintro H
  imodintro
  iexact H

theorem wp_ldF (f : Vec F S16 .f32) (Q : Vec F S16 .f32 → PROP F) :
    kPts d L f ⊢ iprop((kPts d L f -∗ Q f) -∗ WPt d L (ld L kV) Q) := by
  iintro H HQ
  iapply (wp_load_rect 𝒱₀ (thr d L) none Set.univ (m := kV) (r := Rect.unit (s := S16) ![0] S16.size inb_S16_S16_0) (S := Finset.univ) (Finset.subset_univ _)) $$ H
  iintro H
  rw [rdK, wp_ret]
  imodintro
  iapply HQ; iexact H

theorem wp_ldI (f : Vec F S16 .i32) (Q : Vec F S16 .i32 → PROP F) :
    vPts d L f ⊢ iprop((vPts d L f -∗ Q f) -∗ WPt d L (ld L vV) Q) := by
  iintro H HQ
  iapply (wp_load_rect 𝒱₀ (thr d L) none Set.univ (m := vV) (r := Rect.unit (s := S16) ![0] S16.size inb_S16_S16_0) (S := Finset.univ) (Finset.subset_univ _)) $$ H
  iintro H
  rw [rdV, wp_ret]
  imodintro
  iapply HQ; iexact H

theorem wp_stF (f w : Vec F S16 .f32) (Q : PUnit → PROP F) :
    kPts d L f ⊢ iprop((kPts d L w -∗ Q ⟨⟩) -∗ WPt d L (stF L kV w) Q) := by
  iintro H HQ
  iapply (wp_store 𝒱₀ (thr d L) none Set.univ (m := kV) (r := Rect.unit (s := S16) ![0] S16.size inb_S16_S16_0) (S := Finset.univ) (Finset.subset_univ _)) $$ H
  iintro H
  rw [wrK, wp_ret]
  imodintro
  iapply HQ; iexact H

theorem wp_stI (f w : Vec F S16 .i32) (Q : PUnit → PROP F) :
    vPts d L f ⊢ iprop((vPts d L w -∗ Q ⟨⟩) -∗ WPt d L (stI L vV w) Q) := by
  iintro H HQ
  iapply (wp_store 𝒱₀ (thr d L) none Set.univ (m := vV) (r := Rect.unit (s := S16) ![0] S16.size inb_S16_S16_0) (S := Finset.univ) (Finset.subset_univ _)) $$ H
  iintro H
  rw [wrV, wp_ret]
  imodintro
  iapply HQ; iexact H

theorem wp_gatF (f : Vec F S16 .f32) (v : IVec S16 32) (h : k1_chk1 v) (Q : Vec F S16 .f32 → PROP F) :
    kPts d L f ⊢ iprop((kPts d L f -∗ Q (loadIdx f ![v] (k1_idx1_inb v h))) -∗ WPt d L (gat L kV v) Q) := by
  iintro H HQ
  unfold gat
  unfold WPt
  rw [Prog.bind_lift, wp_assume_of _ _ _ _ h]
  iapply (SparseCore.wp_vectorLoadIdx (k := Prog.ret) (hl := View.loads_vmem h_S16) 𝒱₀ (thr d L) none Set.univ (base := kV) (S := Finset.univ) (q := fullShare) (Finset.subset_univ _)) $$ H
  iintro H
  rw [readK, wp_ret]
  imodintro
  iapply HQ; iexact H

theorem wp_gatI (f : Vec F S16 .i32) (v : IVec S16 32) (h : k1_chk1 v) (Q : Vec F S16 .i32 → PROP F) :
    vPts d L f ⊢ iprop((vPts d L f -∗ Q (loadIdx f ![v] (k1_idx1_inb v h))) -∗ WPt d L (gat L vV v) Q) := by
  iintro H HQ
  unfold gat
  unfold WPt
  rw [Prog.bind_lift, wp_assume_of _ _ _ _ h]
  iapply (SparseCore.wp_vectorLoadIdx (k := Prog.ret) (hl := View.loads_vmem h_S16) 𝒱₀ (thr d L) none Set.univ (base := vV) (S := Finset.univ) (q := fullShare) (Finset.subset_univ _)) $$ H
  iintro H
  rw [readV, wp_ret]
  imodintro
  iapply HQ; iexact H

/-- The scatter of keys and values and the reading back. -/
theorem wp_scat (f k : Vec F S16 .f32) (g v : Vec F S16 .i32) (r : IVec S16 32) (h : k1_chk2 r)
    (Q : Vec F S16 .f32 × Vec F S16 .i32 → PROP F) :
    iprop(kPts d L f ∗ vPts d L g)
      ⊢ iprop((kPts d L (storeIdx f ![r] k (fun _ => 1#1) false (k1_idx2_inb r h)) ∗ vPts d L (storeIdx g ![r] v (fun _ => 1#1) false (k1_idx3_inb r h))
            -∗ Q (storeIdx f ![r] k (fun _ => 1#1) false (k1_idx2_inb r h), storeIdx g ![r] v (fun _ => 1#1) false (k1_idx3_inb r h)))
          -∗ WPt d L (scatP L kV vV k v r) Q) := by
  iintro ⟨Hk, Hv⟩ HQ
  unfold scatP
  unfold WPt
  rw [Prog.bind_lift, wp_assume_of _ _ _ _ h]
  iapply (SparseCore.wp_vectorStoreIdx 𝒱₀ (thr d L) none Set.univ (base := kV)) $$ [Hk]
  · rw [setK d L]; iexact Hk
  iintro Hk
  rw [setK d L, readK, writeK]
  iapply (SparseCore.wp_vectorStoreIdx 𝒱₀ (thr d L) none Set.univ (base := vV)) $$ [Hv]
  · rw [setV d L]; iexact Hv
  iintro Hv
  rw [setV d L, readV, writeV]
  iapply wpt_bind
  iapply (wp_ldF d L _ _) $$ Hk; iintro Hk
  iapply wpt_bind
  iapply (wp_ldI d L _ _) $$ Hv; iintro Hv
  iapply wpt_pure
  iapply HQ
  isplitl [Hk] <;> iassumption

omit [FloatOps F] in
theorem iv_toNat (t : Nat) (h : t < 16) : (Scf.iv 0#32 1#32 t).toNat = t := by
  unfold Scf.iv; simp; omega

omit [FloatOps F] in
theorem trips_t2 : k1_t2_loop.trips = 16 := by decide

omit [FloatOps F] in
theorem chk_iv (t : Nat) (h : t < 16) : k1_chk1 (broadcast S16 (Scf.iv 0#32 1#32 t)) := by
  intro a x
  rw [size_S16]
  match a with | 0 => exact (iv_toNat t h).symm ▸ h

theorem loadIdx_iv (k : Vec F S16 .f32) (t : Nat) (h : t < 16) (hc) :
    loadIdx k ![broadcast S16 (Scf.iv 0#32 1#32 t)] hc = (fun _ => k (ln ⟨t, h⟩) : Vec F S16 .f32) := by
  funext x
  unfold loadIdx
  congr 1
  funext a
  match a with | 0 => exact Fin.ext (iv_toNat t h)

theorem wp_step (k : Vec F S16 .f32) (t : Fin k1_t2_loop.trips) (acc : IVec S16 32) (h : acc = rankTo k t) :
    kPts d L k ⊢ WPt d L (stepP L kV k t acc) (fun r => iprop(⌜r = rankTo k (t + 1)⌝ ∗ kPts d L k)) := by
  have ht : t.val < 16 := lt_of_lt_of_eq t.isLt trips_t2
  iintro Hk
  unfold stepP
  iapply wpt_bind
  iapply (wp_gatF d L _ _ (chk_iv t ht) _) $$ Hk; iintro Hk
  iapply wpt_pure
  isplitr
  · ipureintro
    rw [rankTo, dif_pos ht, loadIdx_iv k t ht, h]
  · iexact Hk

/-- The sort: from any contents of the two vectors to the sorted keys and values, in them and as results. -/
theorem wp_sort (f k : Vec F S16 .f32) (g v : Vec F S16 .i32) (Q : Vec F S16 .f32 × Vec F S16 .i32 → PROP F) :
    iprop(kPts d L f ∗ vPts d L g)
      ⊢ iprop((kPts d L (sortK k) ∗ vPts d L (sortV k v) -∗ Q (sortK k, sortV k v)) -∗ WPt d L (sortP L kV vV k v) Q) := by
  iintro ⟨Hk, Hv⟩ HQ
  unfold sortP
  iapply wpt_bind
  iapply (wp_ldF d L _ _) $$ Hk; iintro Hk
  iapply wpt_bind
  iapply (wp_stF d L _ _ _) $$ Hk; iintro Hk
  iapply wpt_bind
  iapply (wp_ldI d L _ _) $$ Hv; iintro Hv
  iapply wpt_bind
  iapply (wp_stI d L _ _ _) $$ Hv; iintro Hv
  iapply (Scf.wp_for_bind frame (wpE (defs₀ (F := F)) 𝒱₀ (thr d L) none) Set.univ _ _ _ k1_t2_ok k1_pay3 (stepP L kV k)
    (fun n acc => iprop(⌜acc = rankTo k n⌝ ∗ kPts d L k))
    (fun t acc => by
      iintro ⟨%h, Hk⟩
      iapply (wp_step d L k t acc h) $$ Hk)) $$ [Hk]
  · isplitr
    · ipureintro; rfl
    · iexact Hk
  iintro %acc ⟨%h, Hk⟩
  have h' : k1_pay5 acc = rank k := by rw [h]; exact congrArg (fun n => k1_pay5 (rankTo k n)) trips_t2
  rw [h']
  iapply (wp_scat d L k k v v (rank k) ⟨chk_pay5 _, chk_pay5 _⟩ Q) $$ [Hk Hv]
  · isplitl [Hk] <;> iassumption
  iexact HQ

end Wp

end Cert.Proof.Router

end
-- ==== Proof.Numbers.lean ====
/-
  The offsets of the task's accesses as numbers: of trip `t` the row and the columns of the slab it reads and the
  column of the scratch results it writes; of a tile the columns of the two results it copies out to.
-/
module

public import proofs.«01_k».proof.Proof.Trip

@[expose] public section

noncomputable section

namespace Cert.Proof.Router

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
theorem trips_t1 : k1_t1_loop.trips = 512 := by decide +kernel

omit [FloatOps F] in
theorem colW_toNat : ∀ t : Fin k1_t1_loop.trips, (colW t).toNat = (t.val % 2) * 256 + t.val / 2 := by decide +kernel

omit [FloatOps F] in
theorem off2_eq : ∀ t : Fin k1_t1_loop.trips, k1_off2 t 0 = t.val / 2 ∧ k1_off2 t 1 = (t.val % 2) * 64 := by decide +kernel
omit [FloatOps F] in
theorem off3_eq : ∀ t : Fin k1_t1_loop.trips, k1_off3 t 0 = t.val / 2 ∧ k1_off3 t 1 = (t.val % 2) * 64 + 16 := by decide +kernel
omit [FloatOps F] in
theorem off4_eq : ∀ t : Fin k1_t1_loop.trips, k1_off4 t 0 = t.val / 2 ∧ k1_off4 t 1 = (t.val % 2) * 64 + 32 := by decide +kernel
omit [FloatOps F] in
theorem off5_eq : ∀ t : Fin k1_t1_loop.trips, k1_off5 t 0 = t.val / 2 ∧ k1_off5 t 1 = (t.val % 2) * 64 + 48 := by decide +kernel

/-- The number of the tile of grid point `L`. -/
def wid (L : grid1.Coords) : Nat := (L 1).val * 2 + (L 0).val

omit [FloatOps F] in
theorem wid_lt (L : grid1.Coords) : wid L < 32 := by
  have h0 : (L 0).val < 2 := (L 0).isLt
  have h1 : (L 1).val < 16 := (L 1).isLt
  unfold wid; omega

/-- The first of the columns of the results that the tile writes. -/
def col0 (L : grid1.Coords) : Nat := (wid L / 2) * 1024 + (wid L % 2) * 256

omit [FloatOps F] in
theorem off1_eq (L : grid1.Coords) : k1_off1 L 0 = wid L * 256 ∧ k1_off1 L 1 = 0 := by
  revert L
  decide +kernel

omit [FloatOps F] in
theorem off6_eq (L : grid1.Coords) : k1_off6 L 0 = 0 ∧ k1_off6 L 1 = col0 L := by
  revert L
  decide +kernel
omit [FloatOps F] in
theorem off7_eq (L : grid1.Coords) : k1_off7 L 0 = 0 ∧ k1_off7 L 1 = col0 L + 512 := by
  revert L
  decide +kernel

end Cert.Proof.Router

end
-- ==== Proof.TripWp.lean ====
module

public import proofs.«01_k».proof.Proof.Sort
public import proofs.«01_k».proof.Proof.Numbers

/-!
# One trip of the task's loop

What the merge of two sorted sixteens, the reading of a chunk and the writing of a column leave, and with them
one trip: the four chunks of a row sorted and merged, and the row's column of both scratch results written.
The contents after `n` trips are the functions `woAt` and `ioAt` of the slab.
-/

@[expose] public section

noncomputable section

namespace Cert.Proof.Router

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
theorem pay21_toNat (x : S16.Idx) : (k1_pay21 x).toNat = 15 - (x 0).val := by
  have hx : (x 0).val < 16 := (x 0).isLt
  have e : (k1_pay21 x) = 15#32 - BitVec.ofNat 32 (x 0).val := by
    unfold k1_pay21
    simp [subi, broadcast, iota]
    rfl
  rw [e]
  simp
  omega

omit [FloatOps F] in
theorem chk_pay21 : k1_chk1 k1_pay21 := by
  intro a x
  rw [size_S16]
  match a with | 0 => exact (pay21_toNat x).symm ▸ (by omega)

theorem loadIdx_pay21 {e : EltTy} (k : Vec F S16 e) (hc) : loadIdx k ![k1_pay21] hc = rev k := by
  funext x
  unfold loadIdx rev
  congr 1
  funext a
  match a with | 0 => exact Fin.ext ((pay21_toNat x).trans (by rw [ln]; simp [Fin.rev]))

section Wp

variable (d : Dev nD) (L : grid1.Coords)

theorem wp_revF (f x : Vec F S16 .f32) (Q : Vec F S16 .f32 → PROP F) :
    kPts d L f ⊢ iprop((kPts d L x -∗ Q (rev x)) -∗ WPt d L (revF L kV x) Q) := by
  iintro Hk HQ
  unfold revF
  iapply wpt_bind
  iapply (wp_ldF d L _ _) $$ Hk; iintro Hk
  iapply wpt_bind
  iapply (wp_stF d L _ _ _) $$ Hk; iintro Hk
  iapply (wp_gatF d L _ _ chk_pay21 _) $$ Hk; iintro Hk
  rw [loadIdx_pay21]
  iapply HQ; iexact Hk

theorem wp_revI (f x : Vec F S16 .i32) (Q : Vec F S16 .i32 → PROP F) :
    vPts d L f ⊢ iprop((vPts d L x -∗ Q (rev x)) -∗ WPt d L (revI L vV x) Q) := by
  iintro Hk HQ
  unfold revI
  iapply wpt_bind
  iapply (wp_ldI d L _ _) $$ Hk; iintro Hk
  iapply wpt_bind
  iapply (wp_stI d L _ _ _) $$ Hk; iintro Hk
  iapply (wp_gatI d L _ _ chk_pay21 _) $$ Hk; iintro Hk
  rw [loadIdx_pay21]
  iapply HQ; iexact Hk

/-- Two sixteens of keys with values merged. -/
def merge (a b : Vec F S16 .f32 × Vec F S16 .i32) : Vec F S16 .f32 × Vec F S16 .i32 :=
  (mergeK a.1 b.1, mergeV a.1 a.2 b.1 b.2)

/-- The two vectors held, whatever is in them. -/
def kv : PROP F := iprop((∃ f, kPts d L f) ∗ (∃ g, vPts d L g))

theorem wp_sort' (k : Vec F S16 .f32) (v : Vec F S16 .i32) (Q : Vec F S16 .f32 × Vec F S16 .i32 → PROP F) :
    kv d L ⊢ iprop((kv d L -∗ Q (sortK k, sortV k v)) -∗ WPt d L (sortP L kV vV k v) Q) := by
  unfold kv
  iintro ⟨⟨%f, Hk⟩, ⟨%g, Hv⟩⟩ HQ
  iapply (wp_sort d L f k g v Q) $$ [Hk Hv]
  · isplitl [Hk] <;> iassumption
  iintro ⟨Hk, Hv⟩
  iapply HQ
  isplitl [Hk]
  · iexists _; iexact Hk
  · iexists _; iexact Hv

theorem wp_merge (a b : Vec F S16 .f32 × Vec F S16 .i32) (Q : Vec F S16 .f32 × Vec F S16 .i32 → PROP F) :
    kv d L ⊢ iprop((kv d L -∗ Q (merge a b)) -∗ WPt d L (mergeP L kV vV a b) Q) := by
  unfold merge mergeK mergeV kv
  iintro H HQ
  icases H with ⟨⟨%f, Hk⟩, ⟨%g, Hv⟩⟩
  unfold mergeP
  iapply wpt_bind
  iapply (wp_revF d L _ _ _) $$ Hk; iintro Hk
  iapply wpt_bind
  iapply (wp_revI d L _ _ _) $$ Hv; iintro Hv
  iapply (wp_sort d L _ _ _ _ _) $$ [Hk Hv]
  · isplitl [Hk] <;> iassumption
  iintro ⟨Hk, Hv⟩
  iapply HQ
  isplitl [Hk]
  · iexists _; iexact Hk
  · iexists _; iexact Hv

/-- Sixteen entries of the slab's contents. -/
def chunkV (s : Vec F S256x128 .f32) (off : Fin 2 → Nat) (hoff : ∀ a, off a + S1x16.size a ≤ S256x128.size a) : Vec F S16 .f32 :=
  k1_pay2 ((slabV.access (Rect.unit (s := S256x128) off S1x16.size hoff)).read (Elt F) s)

theorem wp_chunk (s : Vec F S256x128 .f32) (off : Fin 2 → Nat) (hoff : ∀ a, off a + S1x16.size a ≤ S256x128.size a) (Q : Vec F S16 .f32 → PROP F) :
    slabPts d L s ⊢ iprop((slabPts d L s -∗ Q (chunkV s off hoff)) -∗ WPt d L (chunk L slabV off hoff) Q) := by
  unfold chunkV chunk
  iintro H HQ
  unfold WPt
  rw [Prog.bind_lift]
  iapply (wp_load_rect 𝒱₀ (thr d L) none Set.univ (m := slabV) (r := Rect.unit (s := S256x128) off S1x16.size hoff) (S := Finset.univ) (q := fullShare) (Finset.subset_univ _)) $$ H
  iintro H
  iapply wpt_pure
  iapply HQ; iexact H

/-! ## The column of both scratch results -/

omit [FloatOps F] in
theorem setWo : (woV.access (Rect.whole S8x517)).set = (Finset.univ : Finset (Idx ((woV.access (Rect.whole S8x517)).loc (thr d L)))) :=
  Memref.set_access_whole cc1_scratch1
omit [FloatOps F] in
theorem setIo : (ioV.access (Rect.whole S8x517)).set = (Finset.univ : Finset (Idx ((ioV.access (Rect.whole S8x517)).loc (thr d L)))) :=
  Memref.set_access_whole cc1_scratch2
omit [FloatOps F] in
theorem readWo (f : Vec F S8x517 .f32) : (woV.access (Rect.whole S8x517)).read (Elt F) f = f := Memref.read_access_whole (Elt F) cc1_scratch1 f
omit [FloatOps F] in
theorem readIo (f : Vec F S8x517 .i32) : (ioV.access (Rect.whole S8x517)).read (Elt F) f = f := Memref.read_access_whole (Elt F) cc1_scratch2 f
omit [FloatOps F] in
theorem writeWo (f w : Vec F S8x517 .f32) : (woV.access (Rect.whole S8x517)).write (Elt F) f w Finset.univ = w := Memref.write_access_whole_univ (Elt F) cc1_scratch1 f w
omit [FloatOps F] in
theorem writeIo (f w : Vec F S8x517 .i32) : (ioV.access (Rect.whole S8x517)).write (Elt F) f w Finset.univ = w := Memref.write_access_whole_univ (Elt F) cc1_scratch2 f w

/-- A row's sixteen scattered into column `c` of a scratch result: the first eight lanes alone. -/
def colPut {e : EltTy} (f : Vec F S8x517 e) (c : BitVec 32) (w : Vec F S16 e) (h : k1_chk21 (broadcast S16 c) k1_pay52) : Vec F S8x517 e :=
  storeIdx f ![k1_pay52, broadcast S16 c] w k1_pay50 false (k1_idx28_inb (broadcast S16 c) k1_pay52 h)

theorem wp_out (f : Vec F S8x517 .f32) (g : Vec F S8x517 .i32) (c : BitVec 32) (h : k1_chk21 (broadcast S16 c) k1_pay52)
    (w : Vec F S16 .f32) (ti : Vec F S16 .i32) (Q : Unit → PROP F) :
    iprop(woPts d L f ∗ ioPts d L g)
      ⊢ iprop((woPts d L (colPut f c w h) ∗ ioPts d L (colPut g c ti h) -∗ Q ⟨⟩) -∗ WPt d L (outP L woV ioV c w ti) Q) := by
  unfold colPut outP
  iintro ⟨Hk, Hv⟩ HQ
  unfold WPt
  rw [Prog.bind_lift, wp_assume_of _ _ _ _ h]
  iapply (SparseCore.wp_vectorStoreIdx 𝒱₀ (thr d L) none Set.univ (base := woV)) $$ [Hk]
  · rw [setWo d L]; iexact Hk
  iintro Hk
  rw [setWo d L, readWo, writeWo]
  iapply (SparseCore.wp_vectorStoreIdx 𝒱₀ (thr d L) none Set.univ (base := ioV)) $$ [Hv]
  · rw [setIo d L]; iexact Hv
  iintro Hv
  rw [setIo d L, readIo, writeIo]
  iapply wpt_pure
  iapply HQ
  isplitl [Hk] <;> iassumption

/-! ## The trip -/

omit [FloatOps F] in
theorem chk21 (t : Fin k1_t1_loop.trips) : k1_chk21 (broadcast S16 (colW t)) k1_pay52 := by
  have h1 : ∀ x : S16.Idx, (k1_pay52 x).toNat < 8 := fun x => by
    show (_ &&& 7#32).toNat < 8
    rw [BitVec.toNat_and]
    exact Nat.lt_of_le_of_lt Nat.and_le_right (by decide)
  have h2 : (colW t).toNat < 517 := by
    rw [colW_toNat]
    have := lt_of_lt_of_eq t.isLt trips_t1
    omega
  constructor <;> intro a x <;> match a with | 0 => exact h1 x | 1 => exact h2

/-- The sixteen greatest logits of trip `t`'s row of the slab with their experts, as the trip computes them. -/
def topOf (s : Vec F S256x128 .f32) (t : Fin k1_t1_loop.trips) : Vec F S16 .f32 × Vec F S16 .i32 :=
  merge
    (merge (sortK (chunkV s (k1_off2 t) (k1_off2_inb t)), sortV (chunkV s (k1_off2 t) (k1_off2_inb t)) (k1_pay1 lanes))
      (sortK (chunkV s (k1_off3 t) (k1_off3_inb t)), sortV (chunkV s (k1_off3 t) (k1_off3_inb t)) (k1_pay6 lanes)))
    (merge (sortK (chunkV s (k1_off4 t) (k1_off4_inb t)), sortV (chunkV s (k1_off4 t) (k1_off4_inb t)) (k1_pay11 lanes))
      (sortK (chunkV s (k1_off5 t) (k1_off5_inb t)), sortV (chunkV s (k1_off5 t) (k1_off5_inb t)) (k1_pay16 lanes)))

theorem wp_trip (s : Vec F S256x128 .f32) (t : Fin k1_t1_loop.trips) (f : Vec F S8x517 .f32) (g : Vec F S8x517 .i32) (Q : Unit → PROP F) :
    iprop(kv d L ∗ slabPts d L s ∗ woPts d L f ∗ ioPts d L g)
      ⊢ iprop((kv d L ∗ slabPts d L s ∗ woPts d L (colPut f (colW t) (wRow (topOf s t).1) (chk21 t)) ∗ ioPts d L (colPut g (colW t) (topOf s t).2 (chk21 t)) -∗ Q ⟨⟩)
          -∗ WPt d L (tripP L kV vV slabV woV ioV t) Q) := by
  unfold topOf tripP
  iintro ⟨H, Hs, Hw, Hi⟩ HQ
  iapply wpt_bind
  iapply (wp_chunk d L s _ _ _) $$ Hs; iintro Hs
  iapply wpt_bind
  iapply (wp_sort' d L _ _ _) $$ H; iintro H
  iapply wpt_bind
  iapply (wp_chunk d L s _ _ _) $$ Hs; iintro Hs
  iapply wpt_bind
  iapply (wp_sort' d L _ _ _) $$ H; iintro H
  iapply wpt_bind
  iapply (wp_chunk d L s _ _ _) $$ Hs; iintro Hs
  iapply wpt_bind
  iapply (wp_sort' d L _ _ _) $$ H; iintro H
  iapply wpt_bind
  iapply (wp_chunk d L s _ _ _) $$ Hs; iintro Hs
  iapply wpt_bind
  iapply (wp_sort' d L _ _ _) $$ H; iintro H
  iapply wpt_bind
  iapply (wp_merge d L _ _ _) $$ H; iintro H
  iapply wpt_bind
  iapply (wp_merge d L _ _ _) $$ H; iintro H
  iapply wpt_bind
  iapply (wp_merge d L _ _ _) $$ H; iintro H
  iapply (wp_out d L f g (colW t) (chk21 t) _ _ Q) $$ [Hw Hi]
  · isplitl [Hw] <;> iassumption
  iintro ⟨Hw, Hi⟩
  iapply HQ
  isplitl [H]; · iexact H
  isplitl [Hs]; · iexact Hs
  isplitl [Hw] <;> iassumption

/-- The scratch weights after `n` trips, -/
def woAt (s : Vec F S256x128 .f32) (f : Vec F S8x517 .f32) : Nat → Vec F S8x517 .f32
  | 0 => f
  | n + 1 => if h : n < k1_t1_loop.trips then colPut (woAt s f n) (colW ⟨n, h⟩) (wRow (topOf s ⟨n, h⟩).1) (chk21 ⟨n, h⟩) else woAt s f n
/-- and the scratch experts. -/
def ioAt (s : Vec F S256x128 .f32) (g : Vec F S8x517 .i32) : Nat → Vec F S8x517 .i32
  | 0 => g
  | n + 1 => if h : n < k1_t1_loop.trips then colPut (ioAt s g n) (colW ⟨n, h⟩) (topOf s ⟨n, h⟩).2 (chk21 ⟨n, h⟩) else ioAt s g n

/-- What a tile holds between trips. -/
def tripInv (s : Vec F S256x128 .f32) (f : Vec F S8x517 .f32) (g : Vec F S8x517 .i32) (n : Nat) : PROP F :=
  iprop(kv d L ∗ slabPts d L s ∗ woPts d L (woAt s f n) ∗ ioPts d L (ioAt s g n))

theorem wp_trip_inv (s : Vec F S256x128 .f32) (f : Vec F S8x517 .f32) (g : Vec F S8x517 .i32) (t : Fin k1_t1_loop.trips) :
    tripInv d L s f g t ⊢ WPt d L (tripP L kV vV slabV woV ioV t) (fun _ => tripInv d L s f g (t + 1)) := by
  unfold tripInv
  rw [woAt, ioAt, dif_pos t.isLt, dif_pos t.isLt]
  iintro H
  iapply (wp_trip d L s t _ _ _) $$ H
  iintro H
  iexact H

end Wp

end Cert.Proof.Router

end
-- ==== Proof.Scatter.lean ====
/-
  What a masked scatter leaves at an element, and with it the contents of the scratch results after the loop: column
  `c` holds the row of trip `2 (c mod 256) + c / 256`.
-/
module

public import proofs.«01_k».proof.Proof.TripWp
public import Idealize.ShloMosaic.Lib.Pipeline.Value
public import Idealize.ShloMosaic.Lib.Pipeline.ValueKit.Geometry

@[expose] public section

noncomputable section

namespace Cert.Proof.Router

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A scatter leaves `y` at `j` if every lane that writes `j` writes `y`, and either some lane writes it or it held `y`. -/
theorem storeIdx_eq {s : Shape} {e : EltTy} {n : Fin 1 → Nat} (f : Vec F s e) (idxs : Fin s.rank → IVec ⟨1, n⟩ 32) (v : Vec F ⟨1, n⟩ e) (mask : IVec ⟨1, n⟩ 1)
    (h : ∀ a x, (idxs a x).toNat < s.size a) (j : s.Idx) (y : Elt F e)
    (hv : ∀ k : Fin (n 0), mask (Shape.ofLane k) = 1 → (∀ a, (j a).val = (idxs a (Shape.ofLane k)).toNat) → v (Shape.ofLane k) = y)
    (hf : f j = y ∨ ∃ k : Fin (n 0), mask (Shape.ofLane k) = 1 ∧ ∀ a, (j a).val = (idxs a (Shape.ofLane k)).toNat) :
    storeIdx f idxs v mask false h j = y := by
  have key : ∀ (step : Vec F s e → Fin (n 0) → Vec F s e)
      (hit : ∀ g k, mask (Shape.ofLane k) = 1 → (∀ a, (j a).val = (idxs a (Shape.ofLane k)).toNat) → step g k j = v (Shape.ofLane k))
      (miss : ∀ g k, ¬ (mask (Shape.ofLane k) = 1 ∧ ∀ a, (j a).val = (idxs a (Shape.ofLane k)).toNat) → step g k j = g j)
      (l : List (Fin (n 0))) (g : Vec F s e),
      (g j = y ∨ ∃ k ∈ l, mask (Shape.ofLane k) = 1 ∧ ∀ a, (j a).val = (idxs a (Shape.ofLane k)).toNat) →
      l.foldl step g j = y := by
    intro step hit miss l
    induction l with
    | nil =>
      intro g hg
      rcases hg with hg | ⟨k, hk, _⟩
      · exact hg
      · exact absurd hk (List.not_mem_nil)
    | cons k l ih =>
      intro g hg
      rw [List.foldl_cons]
      apply ih
      by_cases hk : mask (Shape.ofLane k) = 1 ∧ ∀ a, (j a).val = (idxs a (Shape.ofLane k)).toNat
      · exact .inl ((hit g k hk.1 hk.2).trans (hv k hk.1 hk.2))
      · rcases hg with hg | ⟨k', hk', hm'⟩
        · exact .inl ((miss g k hk).trans hg)
        · rcases List.mem_cons.mp hk' with rfl | hk'
          · exact absurd hm' hk
          · exact .inr ⟨k', hk', hm'⟩
  unfold storeIdx
  refine key _ ?_ ?_ (List.finRange (n 0)) f ?_
  · intro g k hm hj
    simp only [hm, if_true]
    exact if_pos hj
  · intro g k hk
    by_cases hm : mask (Shape.ofLane k) = 1
    · simp only [hm, if_true]
      exact if_neg (fun hj => hk ⟨hm, hj⟩)
    · simp only [hm, if_false]
  · rcases hf with hf | ⟨k, hk⟩
    · exact .inl hf
    · exact .inr ⟨k, List.mem_finRange k, hk⟩

/-! ## The scratch results -/

theorem ofLane_eq (k : Fin 16) : (Shape.ofLane k : S16.Idx) = ln k := by
  funext a
  match a with | 0 => rfl

/-- The same of sixteen lanes. -/
theorem storeIdx16 {s : Shape} {e : EltTy} (f : Vec F s e) (idxs : Fin s.rank → IVec S16 32) (v : Vec F S16 e) (mask : IVec S16 1)
    (h : ∀ a x, (idxs a x).toNat < s.size a) (j : s.Idx) (y : Elt F e)
    (hv : ∀ k : Fin 16, mask (ln k) = 1 → (∀ a, (j a).val = (idxs a (ln k)).toNat) → v (ln k) = y)
    (hf : f j = y ∨ ∃ k : Fin 16, mask (ln k) = 1 ∧ ∀ a, (j a).val = (idxs a (ln k)).toNat) :
    storeIdx f idxs v mask false h j = y := by
  apply storeIdx_eq
  · intro k
    have e := ofLane_eq k
    exact fun hm hk => (congrArg v e).trans (hv k ((congrArg mask e).symm.trans hm) (fun a => (hk a).trans (congrArg (fun x => (idxs a x).toNat) e)))
  · rcases hf with hf | ⟨k, hm, hk⟩
    · exact .inl hf
    · have e := ofLane_eq k
      exact .inr ⟨k, (congrArg mask e).trans hm, fun a => (hk a).trans (congrArg (fun x => (idxs a x).toNat) e.symm)⟩

omit [FloatOps F] in
theorem pay50_eq : ∀ k : Fin 16, k1_pay50 (ln k) = 1 ↔ k.val < 8 := by decide +kernel
omit [FloatOps F] in
theorem pay52_eq : ∀ k : Fin 16, (k1_pay52 (ln k)).toNat = k.val % 8 := by decide +kernel

/-- Column `c` of a scratch result after a row is put there, -/
theorem colPut_hit {e : EltTy} (f : Vec F S8x517 e) (c : BitVec 32) (w : Vec F S16 e) (h) (j : S8x517.Idx) (hj : (j 1).val = c.toNat) :
    colPut f c w h j = w (ln ⟨(j 0).val, lt_trans (j 0).isLt (by decide)⟩) := by
  have hj0 : (j 0).val < 8 := (j 0).isLt
  unfold colPut
  apply storeIdx16
  · intro k hm hk
    have h0 : (j 0).val = _ := hk 0
    have := (pay50_eq k).mp hm
    have h1 : (j 0).val = k.val % 8 := h0.trans (pay52_eq k)
    congr 2
    apply Fin.ext
    show k.val = (j 0).val
    omega
  · refine .inr ⟨⟨(j 0).val, lt_trans hj0 (by decide)⟩, ?_, ?_⟩
    · exact (pay50_eq _).mpr hj0
    · intro a
      match a with
      | 0 => exact ((pay52_eq ⟨(j 0).val, lt_trans hj0 (by decide)⟩).trans (Nat.mod_eq_of_lt hj0)).symm
      | 1 => exact hj

/-- and every other column. -/
theorem colPut_miss {e : EltTy} (f : Vec F S8x517 e) (c : BitVec 32) (w : Vec F S16 e) (h) (j : S8x517.Idx) (hj : (j 1).val ≠ c.toNat) :
    colPut f c w h j = f j := by
  unfold colPut
  apply storeIdx16
  · intro k _ hk
    exact absurd (hk 1) hj
  · exact .inl rfl

/-- The trip that writes column `c`. -/
def tripOf (c : Nat) : Nat := (c % 256) * 2 + c / 256

theorem woAt_eq (s : Vec F S256x128 .f32) (f : Vec F S8x517 .f32) (n : Nat) (hn : n ≤ k1_t1_loop.trips) (t : Fin k1_t1_loop.trips) (ht : t.val < n)
    (j : S8x517.Idx) (hj : (j 1).val = (t.val % 2) * 256 + t.val / 2) :
    woAt s f n j = wRow (topOf s t).1 (ln ⟨(j 0).val, lt_trans (j 0).isLt (by decide)⟩) := by
  induction n with
  | zero => omega
  | succ n ih =>
    rw [woAt, dif_pos (show n < k1_t1_loop.trips from hn)]
    have e := colW_toNat ⟨n, hn⟩
    have hN := trips_t1
    by_cases h : t.val = n
    · rw [colPut_hit _ _ _ _ _ (by rw [hj, e, h])]
      have : t = ⟨n, hn⟩ := Fin.ext h
      rw [this]
    · rw [colPut_miss _ _ _ _ _ (by rw [hj, e]; show _ ≠ (n % 2) * 256 + n / 2; have := t.isLt; omega)]
      exact ih (by omega) (by omega)

theorem ioAt_eq (s : Vec F S256x128 .f32) (g : Vec F S8x517 .i32) (n : Nat) (hn : n ≤ k1_t1_loop.trips) (t : Fin k1_t1_loop.trips) (ht : t.val < n)
    (j : S8x517.Idx) (hj : (j 1).val = (t.val % 2) * 256 + t.val / 2) :
    ioAt s g n j = (topOf s t).2 (ln ⟨(j 0).val, lt_trans (j 0).isLt (by decide)⟩) := by
  induction n with
  | zero => omega
  | succ n ih =>
    rw [ioAt, dif_pos (show n < k1_t1_loop.trips from hn)]
    have e := colW_toNat ⟨n, hn⟩
    have hN := trips_t1
    by_cases h : t.val = n
    · rw [colPut_hit _ _ _ _ _ (by rw [hj, e, h])]
      have : t = ⟨n, hn⟩ := Fin.ext h
      rw [this]
    · rw [colPut_miss _ _ _ _ _ (by rw [hj, e]; show _ ≠ (n % 2) * 256 + n / 2; have := t.isLt; omega)]
      exact ih (by omega) (by omega)

/-! ## A row's top sixteen as a function of its logits -/

/-- Logits `16 q .. 16 q + 15` of a row. -/
def part (x : Fin 64 → F .f32) (q : Fin 4) : Vec F S16 .f32 := fun i => x ⟨q.val * 16 + (i 0).val, by have : (i 0).val < 16 := (i 0).isLt; omega⟩

/-- The sixteen greatest logits of a row with their experts, as the kernel computes them. -/
def top (x : Fin 64 → F .f32) : Vec F S16 .f32 × Vec F S16 .i32 :=
  merge
    (merge (sortK (part x 0), sortV (part x 0) (k1_pay1 lanes)) (sortK (part x 1), sortV (part x 1) (k1_pay6 lanes)))
    (merge (sortK (part x 2), sortV (part x 2) (k1_pay11 lanes)) (sortK (part x 3), sortV (part x 3) (k1_pay16 lanes)))

/-- An index of the slab. -/
def at2 (r : Fin 256) (c : Fin 128) : S256x128.Idx := fun a => match a with | 0 => r | 1 => c

theorem chunkV_eq (s : Vec F S256x128 .f32) (off : Fin 2 → Nat) (hoff : ∀ a, off a + S1x16.size a ≤ S256x128.size a) (x : Fin 64 → F .f32) (q : Fin 4)
    (r : Fin 256) (h : Nat) (hh : h < 2) (h0 : off 0 = r.val) (h1 : off 1 = h * 64 + q.val * 16)
    (hx : ∀ e : Fin 64, x e = s (at2 r ⟨h * 64 + e.val, by omega⟩)) :
    chunkV s off hoff = part x q := by
  funext i
  have hi : (i 0).val < 16 := (i 0).isLt
  unfold chunkV part k1_pay2
  rw [hx]
  refine (shapeCast_apply _ _ i (fun a => match a with | ⟨0, _⟩ => ⟨0, Nat.one_pos⟩ | ⟨1, _⟩ => ⟨(i 0).val, hi⟩)
    (by rw [Shape.rowMajor_val_two, Shape.rowMajor_val_one]; show 0 * 16 + (i 0).val = (i 0).val; omega)).trans ?_
  show s ((Rect.unit (s := S256x128) off S1x16.size hoff).emb _) = _
  congr 1
  funext a
  apply Fin.ext
  rw [ValueKit.rect_emb_unit_val]
  match a with
  | 0 => exact (congrArg (· + 0) h0)
  | 1 => show off 1 + (i 0).val = h * 64 + (q.val * 16 + (i 0).val); omega

/-- The row trip `t` works on. -/
def slabRow (s : Vec F S256x128 .f32) (t : Fin k1_t1_loop.trips) : Fin 64 → F .f32 := fun e =>
  s (at2 ⟨t.val / 2, by have := lt_of_lt_of_eq t.isLt trips_t1; omega⟩ ⟨(t.val % 2) * 64 + e.val, by omega⟩)

theorem topOf_eq (s : Vec F S256x128 .f32) (t : Fin k1_t1_loop.trips) : topOf s t = top (slabRow s t) := by
  unfold topOf top
  have h2 := off2_eq t
  have h3 := off3_eq t
  have h4 := off4_eq t
  have h5 := off5_eq t
  have hr : t.val / 2 < 256 := by have := lt_of_lt_of_eq t.isLt trips_t1; omega
  have hm : t.val % 2 < 2 := Nat.mod_lt _ (by decide)
  rw [chunkV_eq s _ (k1_off2_inb t) (slabRow s t) 0 ⟨_, hr⟩ _ hm h2.1 (by rw [h2.2]; rfl) (fun _ => rfl),
    chunkV_eq s _ (k1_off3_inb t) (slabRow s t) 1 ⟨_, hr⟩ _ hm h3.1 (by rw [h3.2]; rfl) (fun _ => rfl),
    chunkV_eq s _ (k1_off4_inb t) (slabRow s t) 2 ⟨_, hr⟩ _ hm h4.1 (by rw [h4.2]; rfl) (fun _ => rfl),
    chunkV_eq s _ (k1_off5_inb t) (slabRow s t) 3 ⟨_, hr⟩ _ hm h5.1 (by rw [h5.2]; rfl) (fun _ => rfl)]

end Cert.Proof.Router

end
-- ==== Proof.Tile.lean ====
/-
  The task on one vector subcore: the slab fetched, the loop of five hundred and twelve trips, and the two halves of
  both scratch results copied out.
-/
module

public import proofs.«01_k».proof.Proof.Scatter

@[expose] public section

noncomputable section

namespace Cert.Proof.Router

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the tasks write -/

/-- The logits of row `n`, in the blocked layout the task reads. -/
def linRow (lin : Vec F S8192x128 .f32) (n : Fin 16384) : Fin 64 → F .f32 := fun e =>
  lin (fun a => match a with
    | 0 => ⟨(n.val / 1024) * 512 + n.val % 512, by have := n.isLt; show _ < 8192; omega⟩
    | 1 => ⟨(n.val % 1024) / 512 * 64 + e.val, by have := e.isLt; show _ < 128; omega⟩)

/-- Both results, transposed, from the logits in their blocked layout. -/
def WT (lin : Vec F S8192x128 .f32) : Vec F S8x16384 .f32 := fun x =>
  wRow (top (linRow lin (x 1))).1 (ln ⟨(x 0).val, lt_trans (x 0).isLt (by decide)⟩)
def IT (lin : Vec F S8192x128 .f32) : Vec F S8x16384 .i32 := fun x =>
  (top (linRow lin (x 1))).2 (ln ⟨(x 0).val, lt_trans (x 0).isLt (by decide)⟩)

/-! ## The task's views -/

section Tile

variable (d : Dev nD) (L : grid1.Coords)

abbrev linK : Memref sig .scVector .hbm S256x128 .f32 := linV.slice (Rect.unit (s := S8192x128) (k1_off1 L) S256x128.size (k1_off1_inb L)) (fun _ => rfl)
abbrev wK0 : Memref sig .scVector .hbm S8x256 .f32 := wV.slice (Rect.unit (s := S8x16384) (k1_off6 L) S8x256.size (k1_off6_inb L)) (fun _ => rfl)
abbrev wK1 : Memref sig .scVector .hbm S8x256 .f32 := wV.slice (Rect.unit (s := S8x16384) (k1_off7 L) S8x256.size (k1_off7_inb L)) (fun _ => rfl)
abbrev iK0 : Memref sig .scVector .hbm S8x256 .i32 := iV.slice (Rect.unit (s := S8x16384) (k1_off6 L) S8x256.size (k1_off6_inb L)) (fun _ => rfl)
abbrev iK1 : Memref sig .scVector .hbm S8x256 .i32 := iV.slice (Rect.unit (s := S8x16384) (k1_off7 L) S8x256.size (k1_off7_inb L)) (fun _ => rfl)

/-- The task's part of the logits, and of the two results. -/
def linPiece (f : Vec F S8192x128 .f32) : PROP F := (linK L).view.loc (thr d L) ↦[(linK L).view.set]{fullShare} f
def wPiece0 (f : Vec F S8x16384 .f32) : PROP F := (wK0 L).view.loc (thr d L) ↦[(wK0 L).view.set]{fullShare} f
def wPiece1 (f : Vec F S8x16384 .f32) : PROP F := (wK1 L).view.loc (thr d L) ↦[(wK1 L).view.set]{fullShare} f
def iPiece0 (f : Vec F S8x16384 .i32) : PROP F := (iK0 L).view.loc (thr d L) ↦[(iK0 L).view.set]{fullShare} f
def iPiece1 (f : Vec F S8x16384 .i32) : PROP F := (iK1 L).view.loc (thr d L) ↦[(iK1 L).view.set]{fullShare} f

/-- All of them. -/
def pieces (lin : Vec F S8192x128 .f32) (w : Vec F S8x16384 .f32) (i : Vec F S8x16384 .i32) : PROP F :=
  iprop(linPiece d L lin ∗ wPiece0 d L w ∗ wPiece1 d L w ∗ iPiece0 d L i ∗ iPiece1 d L i)

/-! ## What the copies out leave -/

/-- A view's elements after one write of all of it. -/
theorem writes_whole_eq {sp : Space} {s : Shape} {e : EltTy} (v : View sig .scVector sp s e) (f g : v.ty.Contents (Elt F)) (u : s.Idx → Elt F e)
    (h : ∀ x, _root_.cast (congrArg (Elt F) v.elt_eq.symm) (u x) = g (v.emb x)) :
    ∀ y ∈ v.set, v.writes (Elt F) f [⟨Rect.whole s, u⟩] y = g y := by
  intro y hy
  obtain ⟨x, _, rfl⟩ := Finset.mem_map.mp hy
  rw [View.writes_singleton, ← h x]
  have e : (v.slice (Rect.whole s)).emb x = v.emb x := congrArg v.emb (Rect.emb_whole_apply s x)
  rw [← e]
  exact View.write_emb_of_mem (v := v.slice (Rect.whole s)) f u (Finset.mem_univ x)

/-- Of the task's slab, the row of the trip that writes column `h * 256 + j`. -/
theorem slabRow_eq (lin : Vec F S8192x128 .f32) (t : Fin k1_t1_loop.trips) (n : Fin 16384) (h j : Nat) (hh : h < 2) (hj : j < 256)
    (ht : t.val = j * 2 + h) (hn : n.val = col0 L + h * 512 + j) :
    slabRow ((linK L).view.read (Elt F) lin) t = linRow lin n := by
  have hw := wid_lt L
  have h1 := off1_eq L
  have hn' := hn
  unfold col0 at hn'
  obtain ⟨p, r, hr, hp, e1, e2⟩ : ∃ p r, r < 2 ∧ wid L = 2 * p + r ∧ wid L / 2 = p ∧ wid L % 2 = r := ⟨wid L / 2, wid L % 2, by omega, by omega, rfl, rfl⟩
  rw [e1, e2] at hn'
  have t1 : t.val / 2 = j := by omega
  have t2 : t.val % 2 = h := by omega
  have n1 : n.val / 1024 = p := by omega
  have n3 : n.val % 1024 = r * 256 + h * 512 + j := by omega
  have n4 : n.val % 1024 / 512 = h := by rw [n3]; interval_cases r <;> interval_cases h <;> omega
  have n2 : n.val % 512 = r * 256 + j := by
    have : n.val % 512 = n.val % 1024 % 512 := by omega
    rw [this, n3]; interval_cases r <;> interval_cases h <;> omega
  funext e
  have he := e.isLt
  unfold slabRow linRow
  show lin ((Rect.unit (s := S8192x128) (k1_off1 L) S256x128.size (k1_off1_inb L)).emb _) = _
  congr 1
  funext a
  apply Fin.ext
  rw [ValueKit.rect_emb_unit_val]
  match a with
  | 0 => show k1_off1 L 0 + t.val / 2 = n.val / 1024 * 512 + n.val % 512; rw [h1.1, t1, n1, n2, hp]; omega
  | 1 => show k1_off1 L 1 + (t.val % 2 * 64 + e.val) = n.val % 1024 / 512 * 64 + e.val; rw [h1.2, t2, n4]; omega

/-- A column of the scratch results is the column of the results it is copied to. -/
theorem wo_col (lin : Vec F S8192x128 .f32) (f : Vec F S8x517 .f32) (y : S8x517.Idx) (z : S8x16384.Idx) (h j : Nat) (hh : h < 2) (hj : j < 256)
    (h0 : (z 0).val = (y 0).val) (hy : (y 1).val = h * 256 + j) (hz : (z 1).val = col0 L + h * 512 + j) :
    woAt ((linK L).view.read (Elt F) lin) f k1_t1_loop.trips y = WT lin z := by
  have hT := trips_t1
  have ht : j * 2 + h < k1_t1_loop.trips := by omega
  rw [woAt_eq _ f _ le_rfl ⟨j * 2 + h, ht⟩ ht y (by rw [hy]; show _ = (j * 2 + h) % 2 * 256 + (j * 2 + h) / 2; omega), topOf_eq,
    slabRow_eq L lin _ (z 1) h j hh hj rfl hz]
  unfold WT
  congr 2
  exact Fin.ext h0.symm

theorem io_col (lin : Vec F S8192x128 .f32) (f : Vec F S8x517 .i32) (y : S8x517.Idx) (z : S8x16384.Idx) (h j : Nat) (hh : h < 2) (hj : j < 256)
    (h0 : (z 0).val = (y 0).val) (hy : (y 1).val = h * 256 + j) (hz : (z 1).val = col0 L + h * 512 + j) :
    ioAt ((linK L).view.read (Elt F) lin) f k1_t1_loop.trips y = IT lin z := by
  have hT := trips_t1
  have ht : j * 2 + h < k1_t1_loop.trips := by omega
  rw [ioAt_eq _ f _ le_rfl ⟨j * 2 + h, ht⟩ ht y (by rw [hy]; show _ = (j * 2 + h) % 2 * 256 + (j * 2 + h) / 2; omega), topOf_eq,
    slabRow_eq L lin _ (z 1) h j hh hj rfl hz]
  unfold IT
  exact congrArg (fun k => (top (linRow lin (z 1))).2 (ln k)) (Fin.ext h0.symm)

theorem wK0_val (lin : Vec F S8192x128 .f32) (f : Vec F S8x517 .f32) (w : Vec F S8x16384 .f32) :
    ∀ y ∈ (wK0 L).view.set, (wK0 L).view.writes (Elt F) w [⟨Rect.whole S8x256,
      (woV.slice (Rect.unit (s := S8x517) ![0, 0] S8x256.size inb_S8x517_S8x256_0_0) (fun _ => rfl)).view.read (Elt F)
        (woAt ((linK L).view.read (Elt F) lin) f k1_t1_loop.trips)⟩] y = WT lin y := by
  refine writes_whole_eq (wK0 L).view w (WT lin) _ fun x => ?_
  have hx : (x 1).val < 256 := (x 1).isLt
  have h6 := off6_eq L
  refine wo_col L lin f ((Rect.unit (s := S8x517) ![0, 0] S8x256.size inb_S8x517_S8x256_0_0).emb x)
    ((Rect.unit (s := S8x16384) (k1_off6 L) S8x256.size (k1_off6_inb L)).emb x) 0 (x 1).val (by decide) hx ?_ ?_ ?_
  · rw [ValueKit.rect_emb_unit_val, ValueKit.rect_emb_unit_val, h6.1]; rfl
  · rw [ValueKit.rect_emb_unit_val]; show 0 + (x 1).val = _; omega
  · rw [ValueKit.rect_emb_unit_val, h6.2]; omega

theorem iK0_val (lin : Vec F S8192x128 .f32) (f : Vec F S8x517 .i32) (w : Vec F S8x16384 .i32) :
    ∀ y ∈ (iK0 L).view.set, (iK0 L).view.writes (Elt F) w [⟨Rect.whole S8x256,
      (ioV.slice (Rect.unit (s := S8x517) ![0, 0] S8x256.size inb_S8x517_S8x256_0_0) (fun _ => rfl)).view.read (Elt F)
        (ioAt ((linK L).view.read (Elt F) lin) f k1_t1_loop.trips)⟩] y = IT lin y := by
  refine writes_whole_eq (iK0 L).view w (IT lin) _ fun x => ?_
  have hx : (x 1).val < 256 := (x 1).isLt
  have h6 := off6_eq L
  refine io_col L lin f ((Rect.unit (s := S8x517) ![0, 0] S8x256.size inb_S8x517_S8x256_0_0).emb x)
    ((Rect.unit (s := S8x16384) (k1_off6 L) S8x256.size (k1_off6_inb L)).emb x) 0 (x 1).val (by decide) hx ?_ ?_ ?_
  · rw [ValueKit.rect_emb_unit_val, ValueKit.rect_emb_unit_val, h6.1]; rfl
  · rw [ValueKit.rect_emb_unit_val]; show 0 + (x 1).val = _; omega
  · rw [ValueKit.rect_emb_unit_val, h6.2]; omega

theorem wK1_val (lin : Vec F S8192x128 .f32) (f : Vec F S8x517 .f32) (w : Vec F S8x16384 .f32) :
    ∀ y ∈ (wK1 L).view.set, (wK1 L).view.writes (Elt F) w [⟨Rect.whole S8x256,
      (woV.slice (Rect.unit (s := S8x517) ![0, 256] S8x256.size inb_S8x517_S8x256_0_256) (fun _ => rfl)).view.read (Elt F)
        (woAt ((linK L).view.read (Elt F) lin) f k1_t1_loop.trips)⟩] y = WT lin y := by
  refine writes_whole_eq (wK1 L).view w (WT lin) _ fun x => ?_
  have hx : (x 1).val < 256 := (x 1).isLt
  have h7 := off7_eq L
  refine wo_col L lin f ((Rect.unit (s := S8x517) ![0, 256] S8x256.size inb_S8x517_S8x256_0_256).emb x)
    ((Rect.unit (s := S8x16384) (k1_off7 L) S8x256.size (k1_off7_inb L)).emb x) 1 (x 1).val (by decide) hx ?_ ?_ ?_
  · rw [ValueKit.rect_emb_unit_val, ValueKit.rect_emb_unit_val, h7.1]; rfl
  · rw [ValueKit.rect_emb_unit_val]; show 256 + (x 1).val = _; omega
  · rw [ValueKit.rect_emb_unit_val, h7.2]

theorem iK1_val (lin : Vec F S8192x128 .f32) (f : Vec F S8x517 .i32) (w : Vec F S8x16384 .i32) :
    ∀ y ∈ (iK1 L).view.set, (iK1 L).view.writes (Elt F) w [⟨Rect.whole S8x256,
      (ioV.slice (Rect.unit (s := S8x517) ![0, 256] S8x256.size inb_S8x517_S8x256_0_256) (fun _ => rfl)).view.read (Elt F)
        (ioAt ((linK L).view.read (Elt F) lin) f k1_t1_loop.trips)⟩] y = IT lin y := by
  refine writes_whole_eq (iK1 L).view w (IT lin) _ fun x => ?_
  have hx : (x 1).val < 256 := (x 1).isLt
  have h7 := off7_eq L
  refine io_col L lin f ((Rect.unit (s := S8x517) ![0, 256] S8x256.size inb_S8x517_S8x256_0_256).emb x)
    ((Rect.unit (s := S8x16384) (k1_off7 L) S8x256.size (k1_off7_inb L)).emb x) 1 (x 1).val (by decide) hx ?_ ?_ ?_
  · rw [ValueKit.rect_emb_unit_val, ValueKit.rect_emb_unit_val, h7.1]; rfl
  · rw [ValueKit.rect_emb_unit_val]; show 256 + (x 1).val = _; omega
  · rw [ValueKit.rect_emb_unit_val, h7.2]

/-! ## The task's own semaphores and buffers -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)
abbrev cell4 (d : Dev nD) (c : Fin τ.nSC) (i : Fin τ.nSub) : GSem nD τ sig := (V d c i, .dma cc1_scoped4.sem)

omit [FloatOps F] in
theorem cell_ne {a b : DmaSems sig S_} (h : (SemLoc.dma a.sem : SemLoc sig) ≠ .dma b.sem) :
    ((V d (cV L) (jV L), .dma a.sem) : GSem nD τ sig) ≠ (V d (cV L) (jV L), .dma b.sem) := fun e => h (congrArg Prod.snd e)

omit [FloatOps F] in
theorem ownSems0_V :
    (ownSems0 (V d (cV L) (jV L)) : PROP F)
      = iprop(semVal (cell0 d (cV L) (jV L)) 0 ∗ semVal (cell1 d (cV L) (jV L)) 0 ∗ semVal (cell2 d (cV L) (jV L)) 0 ∗ semVal (cell3 d (cV L) (jV L)) 0
          ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  have m0 : cell0 d (cV L) (jV L) ∈ ownCells (V d (cV L) (jV L)) := mem_ownCells.mpr ⟨rfl, by show (SemLoc.dma cc1_scoped0.sem : SemLoc sig).isScoped .scVector = true; decide⟩
  have m1 : cell1 d (cV L) (jV L) ∈ ownCells (V d (cV L) (jV L)) := mem_ownCells.mpr ⟨rfl, by show (SemLoc.dma cc1_scoped1.sem : SemLoc sig).isScoped .scVector = true; decide⟩
  have m2 : cell2 d (cV L) (jV L) ∈ ownCells (V d (cV L) (jV L)) := mem_ownCells.mpr ⟨rfl, by show (SemLoc.dma cc1_scoped2.sem : SemLoc sig).isScoped .scVector = true; decide⟩
  have m3 : cell3 d (cV L) (jV L) ∈ ownCells (V d (cV L) (jV L)) := mem_ownCells.mpr ⟨rfl, by show (SemLoc.dma cc1_scoped3.sem : SemLoc sig).isScoped .scVector = true; decide⟩
  have m4 : cell4 d (cV L) (jV L) ∈ ownCells (V d (cV L) (jV L)) := mem_ownCells.mpr ⟨rfl, by show (SemLoc.dma cc1_scoped4.sem : SemLoc sig).isScoped .scVector = true; decide⟩
  unfold SparseCore.Cfg.ownSems0
  rw [SparseCore.bigSep_erase' m0,
    SparseCore.bigSep_erase' (Finset.mem_erase.mpr ⟨cell_ne d L (by decide), m1⟩),
    SparseCore.bigSep_erase' (Finset.mem_erase.mpr ⟨cell_ne d L (by decide), Finset.mem_erase.mpr ⟨cell_ne d L (by decide), m2⟩⟩),
    SparseCore.bigSep_erase' (Finset.mem_erase.mpr ⟨cell_ne d L (by decide), Finset.mem_erase.mpr ⟨cell_ne d L (by decide),
      Finset.mem_erase.mpr ⟨cell_ne d L (by decide), m3⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), m4⟩⟩⟩⟩)]

/-- A buffer of the subcore's own. -/
abbrev own (b : Ref sig .scVector) : DevRef τ sig := (Proc.scVector (cV L) (jV L)).devRef b

omit [FloatOps F] in
theorem own_ne {a b : Ref sig .scVector} (h : a ≠ b) : own L a ≠ own L b := fun e => h (Proc.devRef_injective _ e)

omit [FloatOps F] in
theorem ownBufs_V :
    (ownBufs (V d (cV L) (jV L)) : PROP F)
      = iprop((∃ f, slabPts d L f) ∗ (∃ f, woPts d L f) ∗ (∃ f, ioPts d L f) ∗ (∃ f, kPts d L f) ∗ (∃ f, vPts d L f)
          ∗ bigSep ((((((ownRefs (τ := τ) (.scVector (cV L) (jV L))).erase (own L cc1_scratch0)).erase (own L cc1_scratch1)).erase (own L cc1_scratch2)).erase
              (own L cc1_scratch3)).erase (own L cc1_scratch4))
              fun b => iprop(∃ f, ((d, b) : Loc nD τ sig) ↦{fullShare} f)) := by
  have m0 : own L cc1_scratch0 ∈ ownRefs (τ := τ) (.scVector (cV L) (jV L)) := SparseCore.Cfg.mem_ownRefs_of_owner rfl
  have m1 : own L cc1_scratch1 ∈ ownRefs (τ := τ) (.scVector (cV L) (jV L)) := SparseCore.Cfg.mem_ownRefs_of_owner rfl
  have m2 : own L cc1_scratch2 ∈ ownRefs (τ := τ) (.scVector (cV L) (jV L)) := SparseCore.Cfg.mem_ownRefs_of_owner rfl
  have m3 : own L cc1_scratch3 ∈ ownRefs (τ := τ) (.scVector (cV L) (jV L)) := SparseCore.Cfg.mem_ownRefs_of_owner rfl
  have m4 : own L cc1_scratch4 ∈ ownRefs (τ := τ) (.scVector (cV L) (jV L)) := SparseCore.Cfg.mem_ownRefs_of_owner rfl
  unfold SparseCore.Cfg.ownBufs
  rw [SparseCore.bigSep_erase' m0,
    SparseCore.bigSep_erase' (Finset.mem_erase.mpr ⟨own_ne L (by decide), m1⟩),
    SparseCore.bigSep_erase' (Finset.mem_erase.mpr ⟨own_ne L (by decide), Finset.mem_erase.mpr ⟨own_ne L (by decide), m2⟩⟩),
    SparseCore.bigSep_erase' (Finset.mem_erase.mpr ⟨own_ne L (by decide), Finset.mem_erase.mpr ⟨own_ne L (by decide),
      Finset.mem_erase.mpr ⟨own_ne L (by decide), m3⟩⟩⟩),
    SparseCore.bigSep_erase' (Finset.mem_erase.mpr ⟨own_ne L (by decide), Finset.mem_erase.mpr ⟨own_ne L (by decide),
      Finset.mem_erase.mpr ⟨own_ne L (by decide), Finset.mem_erase.mpr ⟨own_ne L (by decide), m4⟩⟩⟩⟩)]
  rfl

/-! ## The task -/

theorem tile_body (hF : (K (F := F)).Facts) (lin : Vec F S8192x128 .f32) (w : Vec F S8x16384 .f32) (i : Vec F S8x16384 .i32)
    (O : CellTallies nD τ sig (HIx 1)) (W : Waits sig (HIx 1)) (hO : ∀ g, O g none = 0) :
    iprop(levAts (K (F := F)).L (K (F := F)).lev ∗ emp ∗ pieces d L lin w i
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_topk_body L linV (Memref.isWhole_whole _) wV (Memref.isWhole_whole _) iV (Memref.isWhole_whole _) slabV (Memref.isWhole_whole _)
            woV (Memref.isWhole_whole _) ioV (Memref.isWhole_whole _) kV (Memref.isWhole_whole _) vV (Memref.isWhole_whole _)
            cc1_scoped0 cc1_scoped1 cc1_scoped2 cc1_scoped3 cc1_scoped4)
          fun _ => iprop(pieces d L lin (WT lin) (IT lin)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold pieces linPiece wPiece0 wPiece1 iPiece0 iPiece1
  iintro ⟨#Hlv, -, ⟨Hl, Hw0, Hw1, Hi0, Hi1⟩, ⟨⟨%s, Hs⟩, ⟨%fw, Hw⟩, ⟨%fi, Hi⟩, ⟨%fk, Hk⟩, ⟨%fv, Hv⟩, Hbufs⟩, ⟨S0, S1, S2, S3, S4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (show slabPts d L s ⊢ (slabV.view.loc (V d (cV L) (jV L)) ↦{fullShare} s : PROP F) from Entails.rfl) $$ Hs
  sl_unfold [cc1__sc_topk_body, k1_part8]
  sl_exec (disch := exact View.amount_pos _ _ (show 0 < S256x128.numel by decide))
  sl_for (fun n (_ : Unit) => tripInv d L ((linK L).view.read (Elt F) lin) fw fi n) $$ [Hs' Hw Hi Hk Hv]
  case region =>
    intro t u
    have e : tile_body.sl.prog.body_1 (F := F) L t u = tripP L kV vV slabV woV ioV t := body_eq L linV _ wV _ iV _ slabV _ woV _ ioV _ kV _ vV _ cc1_scoped0 cc1_scoped1 cc1_scoped2 cc1_scoped3 cc1_scoped4 t u
    rw [e]
    exact wp_trip_inv d L _ _ _ t
  · unfold tripInv kv
    isplitl [Hk Hv]
    · isplitl [Hk]; · iexists _; iexact Hk
      iexists _; iexact Hv
    isplitl [Hs']
    · iapply (show (slabV.view.loc (V d (cV L) (jV L)) ↦{fullShare} slabV.view.write (Elt F) s ((linK L).view.read (Elt F) lin) Finset.univ : PROP F)
          ⊢ slabPts d L ((linK L).view.read (Elt F) lin) from Entails.of_eq (congrArg (fun f => slabPts d L f) (View.write_whole_univ (Val := Elt F) cc1_scratch0 _ _)))
      iexact Hs'
    isplitl [Hw]; · iexact Hw
    iexact Hi
  iintro %_ HI
  unfold tripInv kv
  icases HI with ⟨⟨⟨%fk, Hk⟩, ⟨%fv, Hv⟩⟩, Hs, Hw, Hi⟩
  ihave Hw' := (show woPts d L _ ⊢ (woV.view.loc (V d (cV L) (jV L)) ↦{fullShare} _ : PROP F) from Entails.rfl) $$ Hw
  ihave Hi' := (show ioPts d L _ ⊢ (ioV.view.loc (V d (cV L) (jV L)) ↦{fullShare} _ : PROP F) from Entails.rfl) $$ Hi
  sl_exec (disch := exact View.amount_pos _ _ (show 0 < S8x256.numel by decide))
  sl_step
  isplitl [Hl Hw0 Hw1 Hi0 Hi1]
  · isplitl [Hl]; · iexact Hl
    isplitl [Hw0]
    · iapply (Entails.of_eq (pointsTo_congr (wK0_val L lin fw w)))
      iexact Hw0
    isplitl [Hw1]
    · iapply (Entails.of_eq (pointsTo_congr (wK1_val L lin fw w)))
      iexact Hw1
    isplitl [Hi0]
    · iapply (Entails.of_eq (pointsTo_congr (iK0_val L lin fi i)))
      iexact Hi0
    · iapply (Entails.of_eq (pointsTo_congr (iK1_val L lin fi i)))
      iexact Hi1
  isplitl [Hs Hw' Hi' Hk Hv Hbufs]
  · isplitl [Hs]; · iexists _; iexact Hs
    isplitl [Hw']; · iexists _; iexact Hw'
    isplitl [Hi']; · iexists _; iexact Hi'
    isplitl [Hk]; · iexists _; iexact Hk
    isplitl [Hv]; · iexists _; iexact Hv
    iexact Hbufs
  isplitl [S0 S1 S2 S3 S4 Hsems]
  · isplitl [S0]; · iexact S0
    isplitl [S1]; · iexact S1
    isplitl [S2]; · iexact S2
    isplitl [S3]; · iexact S3
    isplitl [S4]; · iexact S4
    iexact Hsems
  iexists _; isplitr
  swap; · iexact HO
  ipureintro; intro p _
  rcases p.2 with _ | q
  · exact .inr (.inl rfl)
  · exact .inr (.inr (congrArg some (Subsingleton.elim q 0)))

end Tile

end Cert.Proof.Router

end
-- ==== Proof.Call.lean ====
/-
  The one call of the SparseCores: what its handshakes carry, the tasks' obligation, and the three arrays split into
  the tasks' parts and joined again.
-/
module

public import proofs.«01_k».proof.Proof.Tile

@[expose] public section

noncomputable section

namespace Cert.Proof.Router

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The grid's points, and the kernel of the call -/

/-- The grid point of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_topk_body (coordsV c s)
          linV (Memref.isWhole_whole _) wV (Memref.isWhole_whole _) iV (Memref.isWhole_whole _) slabV (Memref.isWhole_whole _)
          woV (Memref.isWhole_whole _) ioV (Memref.isWhole_whole _) kV (Memref.isWhole_whole _) vV (Memref.isWhole_whole _)
          cc1_scoped0 cc1_scoped1 cc1_scoped2 cc1_scoped3 cc1_scoped4) ⟨⟩ c s := rfl

/-! ## The arrays in parts -/

/-- The TensorCore's thread. -/
abbrev tc (d : Dev nD) : Thread nD τ := SparseCore.T d

/-- The three arrays of the call held whole. -/
abbrev linPts (d : Dev nD) (f : Vec F S8192x128 .f32) : PROP F := (tc d).loc main_v2_1 ↦{fullShare} f
abbrev wPts (d : Dev nD) (f : Vec F S8x16384 .f32) : PROP F := (tc d).loc main_v3_0 ↦{fullShare} f
abbrev iPts (d : Dev nD) (f : Vec F S8x16384 .i32) : PROP F := (tc d).loc main_v3_1 ↦{fullShare} f

/-- A task by its core and its subcore. -/
abbrev Pt : Type := Fin (grid1.bound 0) × Fin (grid1.bound 1)

abbrev linRect (p : Pt) : Rect S8192x128 := Rect.unit (s := S8192x128) (k1_off1 (coordsV p.1 p.2)) S256x128.size (k1_off1_inb (coordsV p.1 p.2))
/-- Of a result, the columns of half `q` of a task's. -/
abbrev outRect (p : Pt × Bool) : Rect S8x16384 := match p.2 with
  | false => Rect.unit (s := S8x16384) (k1_off6 (coordsV p.1.1 p.1.2)) S8x256.size (k1_off6_inb (coordsV p.1.1 p.1.2))
  | true => Rect.unit (s := S8x16384) (k1_off7 (coordsV p.1.1 p.1.2)) S8x256.size (k1_off7_inb (coordsV p.1.1 p.1.2))

omit [FloatOps F] in
theorem mem_linRect (p : Pt) (x : S8192x128.Idx) : x ∈ (linRect p).set ↔ (x 0).val / 256 = wid (coordsV p.1 p.2) := by
  have h := off1_eq (coordsV p.1 p.2)
  have hx : (x 1).val < 128 := (x 1).isLt
  rw [Rect.mem_set_unit]
  constructor
  · intro hm
    have := hm 0
    rw [h.1] at this
    have e : S256x128.size 0 = 256 := rfl
    rw [e] at this
    omega
  · intro hm a
    match a with
    | 0 => rw [h.1]; have e : S256x128.size 0 = 256 := rfl; rw [e]; omega
    | 1 => rw [h.2]; have e : S256x128.size 1 = 128 := rfl; rw [e]; omega

omit [FloatOps F] in
theorem mem_outRect (p : Pt × Bool) (x : S8x16384.Idx) : x ∈ (outRect p).set ↔
    (x 1).val / 1024 * 2 + (x 1).val % 512 / 256 = wid (coordsV p.1.1 p.1.2) ∧ ((x 1).val % 1024 / 512 = if p.2 then 1 else 0) := by
  have h6 := off6_eq (coordsV p.1.1 p.1.2)
  have h7 := off7_eq (coordsV p.1.1 p.1.2)
  have hx0 : (x 0).val < 8 := (x 0).isLt
  have hx1 : (x 1).val < 16384 := (x 1).isLt
  have hw := wid_lt (coordsV p.1.1 p.1.2)
  unfold col0 at h6 h7
  have key (o : Nat) (ho : o < 2) : ((wid (coordsV p.1.1 p.1.2) / 2 * 1024 + wid (coordsV p.1.1 p.1.2) % 2 * 256 + o * 512 ≤ (x 1).val
      ∧ (x 1).val < wid (coordsV p.1.1 p.1.2) / 2 * 1024 + wid (coordsV p.1.1 p.1.2) % 2 * 256 + o * 512 + 256)
      ↔ ((x 1).val / 1024 * 2 + (x 1).val % 512 / 256 = wid (coordsV p.1.1 p.1.2) ∧ (x 1).val % 1024 / 512 = o)) := by
    generalize wid (coordsV p.1.1 p.1.2) = w at hw ⊢
    generalize (x 1).val = n at hx1 ⊢
    obtain ⟨a, r, hr, e1, e2, e3⟩ : ∃ a r, r < 2 ∧ w / 2 = a ∧ w % 2 = r ∧ w = 2 * a + r := ⟨w / 2, w % 2, by omega, rfl, rfl, by omega⟩
    obtain ⟨b, t, ht, f1, f2, f3⟩ : ∃ b t, t < 1024 ∧ n / 1024 = b ∧ n % 1024 = t ∧ n = 1024 * b + t := ⟨n / 1024, n % 1024, by omega, rfl, rfl, by omega⟩
    have f4 : n % 512 = t % 512 := by omega
    rw [e1, e2, f1, f2, f4, e3, f3]
    have hr' : r = 0 ∨ r = 1 := by omega
    have ho' : o = 0 ∨ o = 1 := by omega
    rcases hr' with rfl | rfl <;> rcases ho' with rfl | rfl <;> omega
  rw [show (x ∈ (outRect p).set ↔ _) from Iff.rfl]
  obtain ⟨q, b⟩ := p
  cases b
  · rw [Rect.mem_set_unit, if_neg (by simp), ← key 0 (by decide)]
    constructor
    · intro hm
      have := hm 1
      rw [h6.2] at this
      have e : S8x256.size 1 = 256 := rfl
      rw [e] at this
      omega
    · intro hm a
      match a with
      | 0 => rw [h6.1]; have e : S8x256.size 0 = 8 := rfl; rw [e]; omega
      | 1 => rw [h6.2]; have e : S8x256.size 1 = 256 := rfl; rw [e]; omega
  · rw [Rect.mem_set_unit, if_pos rfl, ← key 1 (by decide)]
    constructor
    · intro hm
      have := hm 1
      rw [h7.2] at this
      have e : S8x256.size 1 = 256 := rfl
      rw [e] at this
      omega
    · intro hm a
      match a with
      | 0 => rw [h7.1]; have e : S8x256.size 0 = 8 := rfl; rw [e]; omega
      | 1 => rw [h7.2]; have e : S8x256.size 1 = 256 := rfl; rw [e]; omega

omit [FloatOps F] in
theorem wid_coordsV (p : Pt) : wid (coordsV p.1 p.2) = p.2.val * 2 + p.1.val := rfl

omit [FloatOps F] in
theorem wid_inj {p q : Pt} (h : wid (coordsV p.1 p.2) = wid (coordsV q.1 q.2)) : p = q := by
  rw [wid_coordsV, wid_coordsV] at h
  have hp : p.1.val < 2 := p.1.isLt
  have hq : q.1.val < 2 := q.1.isLt
  exact Prod.ext (Fin.ext (by omega)) (Fin.ext (by omega))

omit [FloatOps F] in
theorem exists_wid (n : Nat) (h : n < 32) : ∃ p : Pt, wid (coordsV p.1 p.2) = n :=
  ⟨(⟨n % 2, by show _ < 2; omega⟩, ⟨n / 2, by show _ < 16; omega⟩), by rw [wid_coordsV]; show n / 2 * 2 + n % 2 = n; omega⟩

omit [FloatOps F] in
theorem lin_disjoint : ∀ p ∈ (Finset.univ : Finset Pt), ∀ q ∈ (Finset.univ : Finset Pt), p ≠ q → Disjoint (linRect p).set (linRect q).set :=
  fun p _ q _ h => Finset.disjoint_left.mpr fun x hp hq =>
    h (wid_inj (((mem_linRect p x).mp hp).symm.trans ((mem_linRect q x).mp hq)))
omit [FloatOps F] in
theorem lin_cover : (Finset.univ : Finset Pt).biUnion (fun p => (linRect p).set) = Finset.univ :=
  Finset.eq_univ_iff_forall.mpr fun x => by
    have hx : (x 0).val < 8192 := (x 0).isLt
    obtain ⟨p, hp⟩ := exists_wid ((x 0).val / 256) (by omega)
    exact Finset.mem_biUnion.mpr ⟨p, Finset.mem_univ _, (mem_linRect p x).mpr hp.symm⟩
omit [FloatOps F] in
theorem out_disjoint : ∀ p ∈ (Finset.univ : Finset (Pt × Bool)), ∀ q ∈ (Finset.univ : Finset (Pt × Bool)), p ≠ q → Disjoint (outRect p).set (outRect q).set :=
  fun p _ q _ h => Finset.disjoint_left.mpr fun x hp hq => h (by
    obtain ⟨a1, a2⟩ := (mem_outRect p x).mp hp
    obtain ⟨b1, b2⟩ := (mem_outRect q x).mp hq
    refine Prod.ext (wid_inj (a1.symm.trans b1)) ?_
    rw [a2] at b2
    revert b2
    cases p.2 <;> cases q.2 <;> decide)
omit [FloatOps F] in
theorem out_cover : (Finset.univ : Finset (Pt × Bool)).biUnion (fun p => (outRect p).set) = Finset.univ :=
  Finset.eq_univ_iff_forall.mpr fun x => by
    have hx : (x 1).val < 16384 := (x 1).isLt
    obtain ⟨p, hp⟩ := exists_wid ((x 1).val / 1024 * 2 + (x 1).val % 512 / 256) (by omega)
    have h2 : (x 1).val % 1024 / 512 = 0 ∨ (x 1).val % 1024 / 512 = 1 := by omega
    rcases h2 with h2 | h2
    · exact Finset.mem_biUnion.mpr ⟨(p, false), Finset.mem_univ _, (mem_outRect (p, false) x).mpr ⟨hp.symm, h2⟩⟩
    · exact Finset.mem_biUnion.mpr ⟨(p, true), Finset.mem_univ _, (mem_outRect (p, true) x).mpr ⟨hp.symm, h2⟩⟩

omit [FloatOps F] in
theorem linPiece_eq (d : Dev nD) (p : Pt) (f : Vec F S8192x128 .f32) :
    linPiece d (coordsV p.1 p.2) f = ((tc d).loc main_v2_1 ↦[(linRect p).set]{fullShare} f : PROP F) := by
  unfold linPiece
  have e : (linK (coordsV p.1 p.2)).view.set = (linRect p).set := by
    show ((View.whole (main_v2_1_scv : Ref sig .scVector)).slice (linRect p)).set = _
    rw [View.set_slice]; exact Finset.map_refl
  rw [e]
omit [FloatOps F] in
theorem wPieces_eq (d : Dev nD) (p : Pt) (f : Vec F S8x16384 .f32) :
    iprop(wPiece0 d (coordsV p.1 p.2) f ∗ wPiece1 d (coordsV p.1 p.2) f)
      = bigSep Finset.univ fun b : Bool => ((tc d).loc main_v3_0 ↦[(outRect (p, b)).set]{fullShare} f : PROP F) := by
  rw [show (Finset.univ : Finset Bool) = {false, true} by decide, SparseCore.bigSep_insert' (by decide), bigSep_singleton]
  unfold wPiece0 wPiece1
  have e0 : (wK0 (coordsV p.1 p.2)).view.set = (outRect (p, false)).set := by
    show ((View.whole (main_v3_0_scv : Ref sig .scVector)).slice (outRect (p, false))).set = _
    rw [View.set_slice]; exact Finset.map_refl
  have e1 : (wK1 (coordsV p.1 p.2)).view.set = (outRect (p, true)).set := by
    show ((View.whole (main_v3_0_scv : Ref sig .scVector)).slice (outRect (p, true))).set = _
    rw [View.set_slice]; exact Finset.map_refl
  rw [e0, e1]
omit [FloatOps F] in
theorem iPieces_eq (d : Dev nD) (p : Pt) (f : Vec F S8x16384 .i32) :
    iprop(iPiece0 d (coordsV p.1 p.2) f ∗ iPiece1 d (coordsV p.1 p.2) f)
      = bigSep Finset.univ fun b : Bool => ((tc d).loc main_v3_1 ↦[(outRect (p, b)).set]{fullShare} f : PROP F) := by
  rw [show (Finset.univ : Finset Bool) = {false, true} by decide, SparseCore.bigSep_insert' (by decide), bigSep_singleton]
  unfold iPiece0 iPiece1
  have e0 : (iK0 (coordsV p.1 p.2)).view.set = (outRect (p, false)).set := by
    show ((View.whole (main_v3_1_scv : Ref sig .scVector)).slice (outRect (p, false))).set = _
    rw [View.set_slice]; exact Finset.map_refl
  have e1 : (iK1 (coordsV p.1 p.2)).view.set = (outRect (p, true)).set := by
    show ((View.whole (main_v3_1_scv : Ref sig .scVector)).slice (outRect (p, true))).set = _
    rw [View.set_slice]; exact Finset.map_refl
  rw [e0, e1]

omit [FloatOps F] in
theorem pieces_eq (d : Dev nD) (p : Pt) (lin : Vec F S8192x128 .f32) (w : Vec F S8x16384 .f32) (i : Vec F S8x16384 .i32) :
    pieces d (coordsV p.1 p.2) lin w i = iprop(((tc d).loc main_v2_1 ↦[(linRect p).set]{fullShare} lin : PROP F)
      ∗ (bigSep Finset.univ fun b : Bool => ((tc d).loc main_v3_0 ↦[(outRect (p, b)).set]{fullShare} w : PROP F))
      ∗ bigSep Finset.univ fun b : Bool => ((tc d).loc main_v3_1 ↦[(outRect (p, b)).set]{fullShare} i : PROP F)) := by
  rw [← linPiece_eq, ← wPieces_eq, ← iPieces_eq]
  unfold pieces
  refine BI.equiv_iff.mp ⟨?_, ?_⟩
  · show (_ : PROP F) ⊢ _
    iintro ⟨A, B, C, D, E⟩
    isplitl [A]; · iexact A
    isplitl [B C]
    · isplitl [B] <;> iassumption
    isplitl [D] <;> iassumption
  · show (_ : PROP F) ⊢ _
    iintro ⟨A, ⟨B, C⟩, D, E⟩
    isplitl [A]; · iexact A
    isplitl [B]; · iexact B
    isplitl [C]; · iexact C
    isplitl [D] <;> iassumption

omit [FloatOps F] in
/-- The three arrays whole are all the tasks' parts of them. -/
theorem whole_pieces (d : Dev nD) (lin : Vec F S8192x128 .f32) (w : Vec F S8x16384 .f32) (i : Vec F S8x16384 .i32) :
    iprop(linPts d lin ∗ wPts d w ∗ iPts d i)
      = bigSep Finset.univ fun c : Fin (grid1.bound 0) => bigSep Finset.univ fun s : Fin (grid1.bound 1) => pieces d (coordsV c s) lin w i := by
  rw [← bigSep_univ_prod fun p : Pt => pieces d (coordsV p.1 p.2) lin w i]
  rw [bigSep_congr fun p _ => pieces_eq d p lin w i, bigSep_sep', bigSep_sep',
    ← bigSep_univ_prod fun p : Pt × Bool => ((tc d).loc main_v3_0 ↦[(outRect p).set]{fullShare} w : PROP F),
    ← bigSep_univ_prod fun p : Pt × Bool => ((tc d).loc main_v3_1 ↦[(outRect p).set]{fullShare} i : PROP F),
    ← pointsTo_biUnion Finset.univ (ℓ := (tc d).loc main_v2_1) (fun p => (linRect p).set) lin_disjoint,
    ← pointsTo_biUnion Finset.univ (ℓ := (tc d).loc main_v3_0) (fun p => (outRect p).set) out_disjoint,
    ← pointsTo_biUnion Finset.univ (ℓ := (tc d).loc main_v3_1) (fun p => (outRect p).set) out_disjoint]
  have c1 : (Finset.univ : Finset Pt).biUnion (fun p => (linRect p).set) = (Finset.univ : Finset (Idx ((tc d).loc main_v2_1))) := lin_cover
  have c2 : (Finset.univ : Finset (Pt × Bool)).biUnion (fun p => (outRect p).set) = (Finset.univ : Finset (Idx ((tc d).loc main_v3_0))) := out_cover
  have c3 : (Finset.univ : Finset (Pt × Bool)).biUnion (fun p => (outRect p).set) = (Finset.univ : Finset (Idx ((tc d).loc main_v3_1))) := out_cover
  rw [c1, c2]

/-! ## What the handshakes carry -/

section Call

variable (lin : Dev nD → Vec F S8192x128 .f32) (w : Dev nD → Vec F S8x16384 .f32) (i : Dev nD → Vec F S8x16384 .i32)

omit [FloatOps F] in
theorem nCore_zero : (K (F := F)).nCore 0 = grid1.bound 0 := rfl
omit [FloatOps F] in
theorem nSub_zero : (K (F := F)).nSub 0 = grid1.bound 1 := rfl

/-- The task of a core and a subcore of the call. -/
abbrev pointOf (c : Fin ((K (F := F)).nCore 0)) (s : Fin ((K (F := F)).nSub 0)) : grid1.Coords :=
  coordsV (Fin.cast nCore_zero c) (Fin.cast nSub_zero s)

/-- The call hands each core its tasks' parts of the three arrays, and takes them back with the results written. -/
def P : (K (F := F)).Pay (nD := nD) (Val := Elt F) (Name := ℕ) (U := UU) where
  st := fun q d c => match q with | 0 => bigSep Finset.univ fun s => pieces d (pointOf c s) (lin d) (w d) (i d)
  dn := fun q d c => match q with | 0 => bigSep Finset.univ fun s => pieces d (pointOf c s) (lin d) (WT (lin d)) (IT (lin d))
  go := fun q d c s => match q with | 0 => pieces d (pointOf c s) (lin d) (w d) (i d)
  td := fun q d c s => match q with | 0 => pieces d (pointOf c s) (lin d) (WT (lin d)) (IT (lin d))
  x := fun _ _ => iprop(emp)

instance pieces_storable (d : Dev nD) (L : grid1.Coords) (l : Vec F S8192x128 .f32) (u : Vec F S8x16384 .f32) (v : Vec F S8x16384 .i32) :
    BI.Storable (upEmb : UEmb _ (MT nD τ sig (HIx 1) (Elt F) ℕ UU ℕ)) (pieces d L l u v) := by
  unfold pieces linPiece wPiece0 wPiece1 iPiece0 iPiece1
  infer_instance

instance P_storable : (P lin w i).IsStorable where
  st q d c := match q with
    | 0 => (inferInstance : BI.Storable (upEmb : UEmb _ (MT nD τ sig (HIx 1) (Elt F) ℕ UU ℕ))
        (bigSep Finset.univ fun s => pieces d (pointOf c s) (lin d) (w d) (i d)))
  dn q d c := match q with
    | 0 => (inferInstance : BI.Storable (upEmb : UEmb _ (MT nD τ sig (HIx 1) (Elt F) ℕ UU ℕ))
        (bigSep Finset.univ fun s => pieces d (pointOf c s) (lin d) (WT (lin d)) (IT (lin d))))
  go q d c s := match q with | 0 => pieces_storable d (pointOf c s) (lin d) (w d) (i d)
  td q d c s := match q with | 0 => pieces_storable d (pointOf c s) (lin d) (WT (lin d)) (IT (lin d))

theorem tileObl (hF : (K (F := F)).Facts) : (K (F := F)).TileObl (D (F := F)) 𝒱 (P lin w i) v₀ 0 := by
  intro d c s O W hO _ _
  simp only [show (P lin w i).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (lin d) (w d) (i d) O W hO

theorem vecSplit : (K (F := F)).VecSplit' (P lin w i) 0 := by
  intro d c
  show (bigSep Finset.univ fun s => pieces d (pointOf c s) (lin d) (w d) (i d) : PROP F) ⊢ |={Set.univ}=> iprop(
      (bigSep Finset.univ fun s => pieces d (pointOf c s) (lin d) (w d) (i d))
      ∗ ((bigSep Finset.univ fun s => pieces d (pointOf c s) (lin d) (WT (lin d)) (IT (lin d)))
          -∗ bigSep Finset.univ fun s => pieces d (pointOf c s) (lin d) (WT (lin d)) (IT (lin d))))
  iintro H; imodintro
  isplitl [H]; · iexact H
  iintro H; iexact H

theorem st0_eq (d : Dev nD) :
    (bigSep Finset.univ fun c : Fin ((K (F := F)).nCore 0) => (P lin w i).st 0 d c) = iprop(linPts d (lin d) ∗ wPts d (w d) ∗ iPts d (i d)) :=
  (whole_pieces d (lin d) (w d) (i d)).symm
theorem dn0_eq (d : Dev nD) :
    (bigSep Finset.univ fun c : Fin ((K (F := F)).nCore 0) => (P lin w i).dn 0 d c)
      = iprop(linPts d (lin d) ∗ wPts d (WT (lin d)) ∗ iPts d (IT (lin d))) :=
  (whole_pieces d (lin d) (WT (lin d)) (IT (lin d))).symm

end Call

end Cert.Proof.Router

end
-- ==== Proof.Region.lean ====
/-
  The TensorCore region of the program: its body's run over the four staging buffers, the proof data of one entry,
  the body obligation at every point, and the region as the host's run enters and leaves it.
-/
module

public import proofs.«01_k».proof.Proof.Call
public import proofs.«01_k».proof.Proof.Gen.KernelIdeal.Points
public import proofs.«01_k».proof.Proof.Gen.KernelIdeal.Launch
public import Idealize.ShloMosaic.Lib.Pipeline.RegionArrays
public import Idealize.ShloMosaic.Lib.Pipeline.FrameBody
public import Idealize.ShloMosaic.Lib.Pipeline.RegionsLoop
public import Idealize.ShloMosaic.Lib.Tactic

@[expose] public section

noncomputable section

namespace Cert.Proof.Router

open Cert.KernelIdeal Cert.KernelIdeal.Gen
open Idealize.ShloMosaic Idealize.ShloMosaic.TcCoe
open Idealize.ShloMosaic.SparseCore.Cfg (HIx Pay)
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-! ## The body's run -/

/-- A read of the whole of a view through the full rectangle is the view's contents. -/
theorem readAt_full {κ : Kind} {sp : Space} {n k : ℕ} {e : EltTy} (v : View sig κ sp ⟨2, ![n, k]⟩ e)
    (inb : ∀ a, (![0, 0] : Fin 2 → ℕ) a + (![n, k] : Fin 2 → ℕ) a ≤ (![n, k] : Fin 2 → ℕ) a)
    (f : v.ty.Contents (Elt F)) :
    v.readAt (Elt F) (Rect.unit (s := ⟨2, ![n, k]⟩) ![0, 0] ![n, k] inb).toLoadRect f = v.read (Elt F) f := by
  funext x
  show v.read (Elt F) f _ = v.read (Elt F) f x
  congr 1
  funext a
  apply Fin.ext
  fin_cases a <;> simp [Rect.unit, LoadRect.idx]

/-- One whole store leaves its payload. -/
theorem read_writes_full [∀ e, Nonempty (Elt F e)] {κ : Kind} {sp : Space} {n k : ℕ} {e : EltTy} (v : View sig κ sp ⟨2, ![n, k]⟩ e)
    (inb : ∀ a, (![0, 0] : Fin 2 → ℕ) a + (![n, k] : Fin 2 → ℕ) a ≤ (![n, k] : Fin 2 → ℕ) a)
    (f : v.ty.Contents (Elt F)) (w : (⟨2, ![n, k]⟩ : Shape).Idx → Elt F e) :
    v.read (Elt F) (v.writes (Elt F) f [⟨Rect.unit (s := ⟨2, ![n, k]⟩) ![0, 0] ![n, k] inb, w⟩]) = w := by
  funext y
  have h : (Rect.unit (s := ⟨2, ![n, k]⟩) ![0, 0] ![n, k] inb).emb y = y := by
    funext a; apply Fin.ext
    fin_cases a
    · exact (show 0 + 1 * (y 0).val = (y 0).val by omega)
    · exact (show 0 + 1 * (y 1).val = (y 1).val by omega)
  conv_lhs => rw [← h]
  rw [View.read_writes_cons_emb]

/-- From the four staging buffers, the two inputs at `x` and `y`, the body leaves the inputs and writes the two results. -/
theorem body_run [∀ e, Nonempty (Elt F e)] (c : Dev nD) (p : grid0.Coords) (M1 : Memref sig .tc .vmem S1024x4096 .f32) (h1 : M1.IsWhole)
    (M2 : Memref sig .tc .vmem S4096x64 .f32) (h2 : M2.IsWhole) (M3 : Memref sig .tc .vmem S64x1024 .f32) (h3 : M3.IsWhole)
    (M4 : Memref sig .tc .vmem S512x128 .f32) (h4 : M4.IsWhole) (x : Vec F S1024x4096 .f32) (y : Vec F S4096x64 .f32)
    (z3 : Vec F S64x1024 .f32) (z4 : Vec F S512x128 .f32) (Q : PUnit → PROP F) :
    iprop(owns (tc c) M1 fullShare x ∗ owns (tc c) M2 fullShare y ∗ owns (tc c) M3 fullShare z3 ∗ owns (tc c) M4 fullShare z4
        ∗ (iprop(owns (tc c) M1 fullShare x ∗ owns (tc c) M2 fullShare y ∗ owns (tc c) M3 fullShare (k0_pay2 x y)
            ∗ owns (tc c) M4 fullShare (k0_pay3 x y)) -∗ Q ⟨⟩))
      ⊢ wp frame (wpE (defs₀ (F := F)) 𝒱₀ (tc c) none) Set.univ (cc0__logits_block p M1 h1 M2 h2 M3 h3 M4 h4) Q := by
  rw [cc0__logits_block_eq_skeleton]
  unfold cc0__logits_block_skel owns
  rw [h1.set_eq_univ, h2.set_eq_univ, h3.set_eq_univ, h4.set_eq_univ]
  iintro ⟨⟨%f1, %e1, H1⟩, ⟨%f2, %e2, H2⟩, ⟨%f3, %e3, H3⟩, ⟨%f4, %e4, H4⟩, Hk⟩
  sl_exec!
  sl_step
  iapply Hk
  isplitl [H1]; · iexists f1; isplitr; · ipureintro; exact e1
                  iexact H1
  isplitl [H2]; · iexists f2; isplitr; · ipureintro; exact e2
                  iexact H2
  isplitl [H3]
  · iexists _; isplitr; swap; (· iexact H3); ipureintro
    refine (read_writes_full _ _ _ _).trans ?_
    subst e1 e2
    exact congrArg₂ k0_pay2 (readAt_full M1.view _ f1) (readAt_full M2.view _ f2)
  · iexists _; isplitr; swap; (· iexact H4); ipureintro
    refine (read_writes_full _ _ _ _).trans ?_
    subst e1 e2
    exact congrArg₂ k0_pay3 (readAt_full M1.view _ f1) (readAt_full M2.view _ f2)

/-! ## The proof data of one entry -/

/-- What the TensorCore's buffers hold when the region is entered. -/
abbrev Vals (F : FTy → Type) : Type := (c : Dev nD) → (b : Ref sig .tc) → Buf (Elt F) ((c : Thread nD τ).loc b)

variable (V : Vals F)

/-- The rows of the tokens and the weights the body finds staged at point `t`. -/
abbrev blkX (c : Dev nD) (t : Fin cfg0.N) : Vec F S1024x4096 .f32 := ((cfg0.win 0).blk t).view.read (Elt F) (V c main_v0)
abbrev blkW (c : Dev nD) (t : Fin cfg0.N) : Vec F S4096x64 .f32 := ((cfg0.win 1).blk t).view.read (Elt F) (V c main_v1)

/-- The proof data: the inputs' buffers hold their blocks, the outputs' the body's two results; the core owes what the
    launch of the other call will pay, and has waited only at level zero. -/
def dat (c : Dev nD) : Dat τ (Elt F) (HIx 1) ℕ UU ℕ cfg0 c where
  A w := V c (Pipeline.arrRef spec0 w)
  after w t := match w with
    | ⟨0, _⟩ => blkX V c t
    | ⟨1, _⟩ => blkW V c t
    | ⟨2, _⟩ => k0_pay2 (blkX V c t) (blkW V c t)
    | ⟨3, _⟩ => k0_pay3 (blkX V c t) (blkW V c t)
  Φ _ := BI.emp
  q _ := fullShare
  owed _ := (K (F := F)).Otc c 0
  recorded _ := {p | (K (F := F)).lev (tc c, p.1) p.2 ≤ 0}

/-- What the body finds in the two inputs' buffers. -/
theorem before_x (c : Dev nD) (t : Fin cfg0.N) (z : (cfg0.win 0).block.Idx → Elt F (cfg0.win 0).elt) : (dat V c).before 0 t z = blkX V c t :=
  Pipeline.Dat.before_in_eq_fetched (dat V c) 0 rfl (fun _ => rfl) (fun _ _ _ => rfl) (fun _ => rfl) t z
theorem before_w (c : Dev nD) (t : Fin cfg0.N) (z : (cfg0.win 1).block.Idx → Elt F (cfg0.win 1).elt) : (dat V c).before 1 t z = blkW V c t :=
  Pipeline.Dat.before_in_eq_fetched (dat V c) 1 rfl (fun _ => rfl) (fun _ _ _ => rfl) (fun _ => rfl) t z

/-- The body table's row for the region's body. -/
theorem defs₀_row (t : Fin cfg0.N) : defs₀ (F := F) .tc cfg0.body (cfg0.bodyArgs t (cfg0.slots t)) = bodyAt0 t := by
  rfl

theorem body_obligation [∀ e, Nonempty (Elt F e)] (c : Dev nD) :
    BodyObligation (dat V c) (defs₀ (F := F)) 𝒱₀ (none : HIx 1) Set.univ := fun t => by
  rw [bigSep_W0, bigSep_W0, defs₀_row]
  rw [show (dat V c).Φ t.castSucc = BI.emp from rfl, show (dat V c).Φ t.succ = BI.emp from rfl,
    show (dat V c).owesAt none t.succ = (dat V c).owesAt none t.castSucc from rfl]
  iintro ⟨HΦ, Howes, ⟨%d0, H0⟩, ⟨%d1, H1⟩, ⟨%d2, H2⟩, ⟨%d3, H3⟩⟩
  rw [before_x, before_w]
  iapply (body_run c (grid0.coords t) _ _ _ _ _ _ _ _ (blkX V c t) (blkW V c t))
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The region -/

/-- The one admissible table of the one pipeline, and the family of proof data the region's theorems take. -/
def adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat V c

/-- The two results after the region. -/
def logitsT (c : Dev nD) : Vec F S64x16384 .f32 := (dat V c).arrAt 2 cfg0.N
def lin (c : Dev nD) : Vec F S8192x128 .f32 := (dat V c).arrAt 3 cfg0.N

/-- What the core owes beside the region, and that it has waited only at level zero. -/
abbrev owing (c : Dev nD) : PROP F :=
  iprop(∃ W, ⌜(K (F := F)).WBelow (tc c) W 0⌝ ∗ owes (tc c) ((K (F := F)).Otc c 0) W)

variable (Vp : Vals F)

set_option backward.isDefEq.respectTransparency.types false in
/-- The region over every unscoped buffer: entered at `V`, left at any `Vp` that has the two results and is `V` elsewhere. -/
def region [∀ e, Nonempty (Elt F e)] (h2 : ∀ c, Vp c main_v2_0 = logitsT V c) (h3 : ∀ c, Vp c main_v2_1 = lin V c)
    (hne : ∀ c (b : Ref sig .tc), b ≠ main_v2_0 → b ≠ main_v2_1 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (pdats V) none 0 c 0 ((K (F := F)).Otc c 0) (fun _ => rfl)
    (fun _ _ => Finset.mem_univ _) (fun _ _ => le_rfl) (fun g i hg => ⟨Finset.mem_univ _, lt_of_lt_of_le (Nat.succ_pos _) (SparseCore.Cfg.lev_of_Otc_pos hg)⟩)
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro ⟨-, -, Hr⟩
    ihave H := (Entails.of_eq (scopedRest0_eq (Ix := HIx 1) (Val := Elt F) (Name := ℕ) (U := UU) (Lvl := ℕ) c)) $$ Hr
    iexact H
  hout c := by
    rw [Pipeline.ownSems0_none, show (pdats V 0 c).Φ (Fin.last _) = BI.emp from rfl]
    iintro Hr
    isplitr; · iempintro
    isplitr; · iempintro
    iapply (Entails.of_eq (scopedRest0_eq (Ix := HIx 1) (Val := Elt F) (Name := ℕ) (U := UU) (Lvl := ℕ) c).symm)
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v0 (by decide) (by decide)).symm
        · exact ((pdats V 0 c).arrAt_in 1 rfl _).trans (hne c main_v1 (by decide) (by decide)).symm
        · exact (h2 c).symm
        · exact (h3 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases @hW p hp with h | ⟨w, s, h⟩
      · exact h
      · exact le_of_eq (by rw [show p.2 = none from (congrArg Prod.snd h)]; rfl)
    iexact HO

end Cert.Proof.Router

end
-- ==== Proof.Main.lean ====
/-
  The program's run: the host's operations and the two calls in order, each as a step of one valuation of the
  TensorCore's unscoped buffers, and the launch.
-/
module

public import proofs.«01_k».proof.Proof.Region

@[expose] public section

noncomputable section

namespace Cert.Proof.Router

open Cert.KernelIdeal Cert.KernelIdeal.Gen
open Idealize.ShloMosaic Idealize.ShloMosaic.TcCoe
open Idealize.ShloMosaic.SparseCore.Cfg (HIx Pay)
open Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (held)
open Idealize.ShloMosaic.Pipeline (ucRefs)

variable {F : FTy → Type} [FloatOps F]

/-! ## The host's operations -/

abbrev opX : HloOp τ sig (Elt F) := StableHlo.reshape main_arg0 main_v0 (rfl : (.f32 : EltTy) = .f32) shapeCasts_S2x8192x4096_S16384x4096
abbrev opW : HloOp τ sig (Elt F) := StableHlo.unary main_arg1 main_v1 ((transpose S4096x64 [1, 0] · transposes_S64x4096_S4096x64_1_0) : (⟨S64x4096, .f32⟩ : BufTy).Contents (Elt F) → (⟨S4096x64, .f32⟩ : BufTy).Contents (Elt F))
abbrev opL : HloOp τ sig (Elt F) := StableHlo.unary main_v2_0 main_v4 ((transpose S16384x64 [1, 0] · transposes_S64x16384_S16384x64_1_0) : (⟨S64x16384, .f32⟩ : BufTy).Contents (Elt F) → (⟨S16384x64, .f32⟩ : BufTy).Contents (Elt F))
abbrev opT : HloOp τ sig (Elt F) := StableHlo.unary main_v3_0 main_v5 ((transpose S16384x8 [1, 0] · transposes_S8x16384_S16384x8_1_0) : (⟨S8x16384, .f32⟩ : BufTy).Contents (Elt F) → (⟨S16384x8, .f32⟩ : BufTy).Contents (Elt F))
abbrev opI : HloOp τ sig (Elt F) := StableHlo.unary main_v3_1 main_v6 ((transpose S16384x8 [1, 0] · transposes_S8x16384_S16384x8_1_0) : (⟨S8x16384, .i32⟩ : BufTy).Contents (Elt F) → (⟨S16384x8, .i32⟩ : BufTy).Contents (Elt F))

/-! ## The valuations between them -/

variable (m : (ℓ : Loc nD τ sig) → Buf (Elt F) ℓ)

/-- At the launch; -/
def W0 (d : Dev nD) : Valuation τ sig (Elt F) := fun b => m (d, b)
/-- when the region is entered; -/
def W1 (d : Dev nD) : Valuation τ sig (Elt F) := opW.result (opX.result (W0 m d))
abbrev V1 : Vals F := fun c b => W1 m c (Proc.devRef .tc b)
/-- when it is left; -/
def W2 (d : Dev nD) : Valuation τ sig (Elt F) :=
  Function.update (Function.update (W1 m d) (Proc.devRef .tc main_v2_0) (logitsT (V1 m) d)) (Proc.devRef .tc main_v2_1) (lin (V1 m) d)
/-- after the vector subcores' call; -/
def W3 (d : Dev nD) : Valuation τ sig (Elt F) :=
  Function.update (Function.update (W2 m d) (Proc.devRef .tc main_v3_0) (WT (lin (V1 m) d))) (Proc.devRef .tc main_v3_1) (IT (lin (V1 m) d))
/-- and at the end. -/
def W4 (d : Dev nD) : Valuation τ sig (Elt F) := opI.result (opT.result (opL.result (W3 m d)))

theorem W2_lin (d : Dev nD) : W2 m d (Proc.devRef .tc main_v2_1) = lin (V1 m) d := by
  unfold W2; exact Function.update_self ..
theorem W2_logitsT (d : Dev nD) : W2 m d (Proc.devRef .tc main_v2_0) = logitsT (V1 m) d := by
  unfold W2; rw [Function.update_of_ne (by decide)]; exact Function.update_self ..
theorem W2_ne (d : Dev nD) (b : Ref sig .tc) (h0 : b ≠ main_v2_0) (h1 : b ≠ main_v2_1) :
    W2 m d (Proc.devRef .tc b) = V1 m d b := by
  unfold W2
  rw [Function.update_of_ne (fun h => h1 (Proc.devRef_injective _ h)), Function.update_of_ne (fun h => h0 (Proc.devRef_injective _ h))]

/-- The buffers of the vector subcores' call. -/
abbrev callRefs : Finset (DevRef τ sig) := {Proc.devRef .tc main_v2_1, Proc.devRef .tc main_v3_0, Proc.devRef .tc main_v3_1}

theorem held_call (d : Dev nD) (W : Valuation τ sig (Elt F)) :
    (held (tc d) callRefs W : PROP F)
      = iprop(linPts d (W (Proc.devRef .tc main_v2_1)) ∗ wPts d (W (Proc.devRef .tc main_v3_0)) ∗ iPts d (W (Proc.devRef .tc main_v3_1))) := by
  unfold held callRefs
  rw [SparseCore.bigSep_insert' (by decide), SparseCore.bigSep_insert' (by decide), bigSep_singleton]

theorem callRefs_sub : callRefs ⊆ ucRefs τ sig := by decide

/-- The pay of the call: the logits, and what the results held at the launch. -/
abbrev PP : (K (F := F)).Pay (nD := nD) (Val := Elt F) (Name := ℕ) (U := UU) :=
  P (fun d => lin (V1 m) d) (fun d => W2 m d (Proc.devRef .tc main_v3_0)) (fun d => W2 m d (Proc.devRef .tc main_v3_1))

/-- Off the call's buffers nothing changes over it. -/
theorem held_rest (d : Dev nD) :
    (held (tc d) (ucRefs τ sig \ callRefs) (W3 m d) : PROP F) = held (tc d) (ucRefs τ sig \ callRefs) (W2 m d) :=
  StableHlo.held_congr _ fun b hb => by
    have hb' := (Finset.mem_sdiff.mp hb).2
    unfold W3
    rw [Function.update_of_ne (fun h => hb' (by rw [h]; decide)), Function.update_of_ne (fun h => hb' (by rw [h]; decide))]

/-! ## @main -/

theorem sub_ucRefs (x y : Ref sig .tc) (hx : (Proc.devRef (τ := τ) .tc x).isScoped = false) (hy : (Proc.devRef (τ := τ) .tc y).isScoped = false) :
    ({Proc.devRef .tc x, Proc.devRef .tc y} : Finset (DevRef τ sig)) ⊆ ucRefs τ sig := fun b hb => by
  rcases Finset.mem_insert.mp hb with rfl | hb
  · exact Finset.mem_filter.mpr ⟨StableHlo.devRef_mem_tcRefs _, by rw [hx]; decide⟩
  · rw [Finset.mem_singleton.mp hb]; exact Finset.mem_filter.mpr ⟨StableHlo.devRef_mem_tcRefs _, by rw [hy]; decide⟩
theorem opX_sub : (opX (F := F)).bufs ⊆ ucRefs τ sig := sub_ucRefs main_arg0 main_v0 rfl rfl
theorem opW_sub : (opW (F := F)).bufs ⊆ ucRefs τ sig := sub_ucRefs main_arg1 main_v1 rfl rfl
theorem opL_sub : (opL (F := F)).bufs ⊆ ucRefs τ sig := sub_ucRefs main_v2_0 main_v4 rfl rfl
theorem opT_sub : (opT (F := F)).bufs ⊆ ucRefs τ sig := sub_ucRefs main_v3_0 main_v5 rfl rfl
theorem opI_sub : (opI (F := F)).bufs ⊆ ucRefs τ sig := sub_ucRefs main_v3_1 main_v6 rfl rfl

theorem phinj : Function.Injective (Pipeline.cellOf (nD := nD) (τ := τ) (Pipeline.pin (pcfgs (F := F)) adm)) := cellOf_inj

/-- The pipeline's ghost state on device `d`. -/
abbrev GG (d : Dev nD) : PROP F :=
  iprop(Pipeline.cellsGhost (Pipeline.pin (pcfgs (F := F)) adm) EP 0 d ∗ Pipeline.toksInit (Pipeline.pin (pcfgs (F := F)) adm) EP 0 d)
abbrev FIN (d : Dev nD) : PROP F := held (tc d) (ucRefs τ sig) (W4 m d)

variable (ρ : Dev nD → PrngReg)

set_option backward.isDefEq.respectTransparency.types false in
/-- The region, as a step of @main, over any contents of the buffers. -/
theorem region_run [∀ e, Nonempty (Elt F e)] (V Vp : Vals F) (h2 : ∀ c, Vp c main_v2_0 = logitsT V c) (h3 : ∀ c, Vp c main_v2_1 = lin V c)
    (hne : ∀ c (b : Ref sig .tc), b ≠ main_v2_0 → b ≠ main_v2_1 → Vp c b = V c b) (d : Dev nD) (Q : PUnit → PROP F) :
    iprop((iprop(boundary (tc d) ∗ (region V Vp h2 h3 hne).post d) -∗ wp frame (wpE (D (F := F)) 𝒱 (tc d) none) Set.univ (Prog.ret ⟨⟩) Q)
        ∗ boundary (tc d) ∗ (region V Vp h2 h3 hne).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (tc d) none) Set.univ (.op (.customCall (Pipeline.entry 0) ()) Prog.ret) Q :=
  Pipeline.RegionSeg.wp (pcfgs (F := F)) adm (pdats V) (none : HIx 1) phinj EP defs₀ 𝒱₀ (K (F := F)).L (K (F := F)).lev
    (region V Vp h2 h3 hne) d none (fun _ h => nomatch h) Prog.ret Q

/-- What the buffers hold after the region. -/
abbrev V2 : Vals F := fun c b => W2 m c (Proc.devRef .tc b)

theorem lift_entry (p : Fin 1) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) Prog.ret) := rfl

/-- The same, of what the buffers hold before and after it. -/
theorem region_lift [∀ e, Nonempty (Elt F e)] (V Vp : Vals F) (h2 : ∀ c, Vp c main_v2_0 = logitsT V c) (h3 : ∀ c, Vp c main_v2_1 = lin V c)
    (hne : ∀ c (b : Ref sig .tc), b ≠ main_v2_0 → b ≠ main_v2_1 → Vp c b = V c b) (d : Dev nD) (Q : PUnit → PROP F) :
    iprop((iprop(boundary (tc d) ∗ unscopedBufs d (Vp d) ∗ owing d) -∗ Q ⟨⟩)
        ∗ boundary (tc d) ∗ (unscopedBufs d (V d) ∗ owing d) ∗ levAts (K (F := F)).L (K (F := F)).lev ∗ GG d)
      ⊢ wp frame (wpE ((K (F := F)).defs (D (F := F))) 𝒱 (tc d) none) Set.univ (Prog.lift (.customCall (SparseCore.inner (Pipeline.entry 0)) ())) Q := by
  have hl := (K (F := F)).wp_liftProg (D (F := F)) 𝒱 (tc d) Set.univ none (.op (.customCall (Pipeline.entry 0) ()) Prog.ret) Q
  rw [lift_entry]
  refine BIBase.Entails.trans ?_ hl
  have h := region_run V Vp h2 h3 hne d Q
  rw [wp_ret] at h
  refine BIBase.Entails.trans ?_ h
  refine sep_mono ?_ .rfl
  iintro Hk H; imodintro; iapply Hk; iexact H

theorem region_step [∀ e, Nonempty (Elt F e)] (d : Dev nD) (Q : PUnit → PROP F) :
    iprop((iprop(boundary (tc d) ∗ held (tc d) (ucRefs τ sig) (W2 m d) ∗ owing d) -∗ Q ⟨⟩)
        ∗ boundary (tc d) ∗ (held (tc d) (ucRefs τ sig) (W1 m d) ∗ owing d) ∗ levAts (K (F := F)).L (K (F := F)).lev ∗ GG d)
      ⊢ wp frame (wpE ((K (F := F)).defs (D (F := F))) 𝒱 (tc d) none) Set.univ (Prog.lift (.customCall (SparseCore.inner (Pipeline.entry 0)) ())) Q := by
  rw [← Pipeline.unscopedBufs_held d (W2 m d), ← Pipeline.unscopedBufs_held d (W1 m d)]
  exact region_lift (V1 m) (V2 m) (W2_logitsT m) (W2_lin m) (W2_ne m) d Q

/-- What the TensorCore owes, taken out of its state before the call. -/
theorem tcSt_take (d : Dev nD) : ((K (F := F)).tcSt EH d 0 : PROP F) ⊢ iprop(owing d ∗ (owing d -∗ (K (F := F)).tcSt EH d 0)) := by
  unfold SparseCore.Cfg.tcSt
  iintro ⟨Ho, Hst⟩
  isplitl [Ho]; · iexact Ho
  iintro Ho
  isplitl [Ho]; · iexact Ho
  iexact Hst

/-- The call's buffers back into the rest. -/
theorem held_back (d : Dev nD) : iprop(iprop(linPts d (lin (V1 m) d) ∗ wPts d (WT (lin (V1 m) d)) ∗ iPts d (IT (lin (V1 m) d))) ∗ held (tc d) (ucRefs τ sig \ callRefs) (W2 m d))
    ⊢ (held (tc d) (ucRefs τ sig) (W3 m d) : PROP F) := by
  rw [StableHlo.held_sub_split (tc d) callRefs_sub (W3 m d), held_rest, held_call]
  refine sep_mono (Entails.of_eq ?_) .rfl
  unfold W3
  rw [Function.update_self, Function.update_of_ne (by decide), Function.update_of_ne (by decide), Function.update_of_ne (by decide), Function.update_self, W2_lin]

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((tc d).loc b)) : PROP F) = held (tc d) (ucRefs τ sig) (W0 m d) from
    Pipeline.unscopedBufs_held d (W0 m d)]
  simp only [main, wp_bind, wp_pure]
  iintro ⟨#Hctx, Hst, ⟨Hb, Hh, Hts, -⟩, ⟨Hg, Ht⟩⟩
  ihave HL := (SparseCore.Cfg.ctx_levAts (K := K (F := F)) (EH := EH) (P := PP m) κ) $$ Hctx
  iapply (StableHlo.wp_hlo_within 𝒱 (tc d) none Set.univ (op := opX) (S := ucRefs τ sig) (V := W0 m d) opX_sub) $$ [Hb Hh]
  · isplitl [Hb] <;> iassumption
  iintro ⟨Hb, Hh⟩
  rw [wp_ret]; imodintro
  iapply (StableHlo.wp_hlo_within 𝒱 (tc d) none Set.univ (op := opW) (S := ucRefs τ sig) (V := opX.result (W0 m d)) opW_sub) $$ [Hb Hh]
  · isplitl [Hb] <;> iassumption
  iintro ⟨Hb, Hh⟩
  rw [wp_ret]; imodintro
  ihave Hst := (tcSt_take d) $$ Hst
  icases Hst with ⟨Ho, Hst⟩
  iapply (region_step m d)
  isplitr [Hb Hh Ho HL Hg Ht]; swap
  · isplitl [Hb]; · iexact Hb
    isplitl [Hh Ho]
    · isplitl [Hh]; · iexact Hh
      iexact Ho
    isplitl [HL]; · iexact HL
    isplitl [Hg] <;> iassumption
  iintro ⟨Hb, Hh, Ho⟩
  ihave Hh := (Entails.of_eq (StableHlo.held_sub_split (tc d) callRefs_sub (W2 m d))) $$ Hh
  icases Hh with ⟨Hc, Hr⟩
  ihave Hc := (Entails.of_eq (held_call d (W2 m d))) $$ Hc
  iapply ((K (F := F)).wp_run (D (F := F)) 𝒱 (EH := EH) (P := PP m) κ d 0) $$ [Hst Ho Hc Hb Hts Hr]
  isplitr; · iexact Hctx
  isplitl [Hst Ho]; · iapply Hst; iexact Ho
  isplitl [Hc]
  · rw [st0_eq, ← W2_lin]; iexact Hc
  iintro ⟨Hst, Hdn⟩
  ihave Hc := (Entails.of_eq (dn0_eq _ _ _ d)) $$ Hdn
  ihave Hh := (held_back m d) $$ [Hc Hr]
  · isplitl [Hc] <;> iassumption
  iapply (StableHlo.wp_hlo_within 𝒱 (tc d) none Set.univ (op := opL) (S := ucRefs τ sig) (V := W3 m d) opL_sub) $$ [Hb Hh]
  · isplitl [Hb] <;> iassumption
  iintro ⟨Hb, Hh⟩
  rw [wp_ret]; imodintro
  iapply (StableHlo.wp_hlo_within 𝒱 (tc d) none Set.univ (op := opT) (S := ucRefs τ sig) (V := opL.result (W3 m d)) opT_sub) $$ [Hb Hh]
  · isplitl [Hb] <;> iassumption
  iintro ⟨Hb, Hh⟩
  rw [wp_ret]; imodintro
  iapply (StableHlo.wp_hlo_within 𝒱 (tc d) none Set.univ (op := opI) (S := ucRefs τ sig) (V := opT.result (opL.result (W3 m d))) opI_sub) $$ [Hb Hh]
  · isplitl [Hb] <;> iassumption
  iintro ⟨Hb, Hh⟩
  rw [wp_ret]; imodintro
  imodintro
  isplitl [Hst]; · iexact Hst
  isplitl [Hh]; · iexact Hh
  isplitl [Hb] <;> iassumption

/-! ## The launch -/

/-- The ghost state of the launch: the handshakes', and the pipeline's. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem first_pipeline (Φ : Dev nD → Fin 1 → PROP F) :
    (bigSep Finset.univ fun c => bigSep Finset.univ fun p => Φ c p) ⊢ bigSep Finset.univ fun c => Φ c 0 :=
  bigSep_mono fun _ _ => BI.bigSep_elim (Finset.mem_univ 0)

theorem emp_threads : (bigSep Finset.univ fun _ : Thread nD τ => iprop(emp)) = (iprop(emp) : PROP F) := bigSep_emp_const _

theorem hu₀ : (ownU (u₀ (F := F)) : PROP F)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave HR := (own_pair_emb (F := embR) _ _) $$ HR
  icases HR with ⟨HP, -⟩
  imod (Pipeline.fund_ghost (Pipeline.pin (pcfgs (F := F)) adm) EP phinj) $$ HP with ⟨Hg, Ht⟩
  imodintro
  isplitl [HH]; · iexact HH
  isplitl [Hg Ht]
  · rw [bigSep_sep']
    isplitl [Hg]
    · iapply (first_pipeline _) $$ Hg
    · iapply (first_pipeline _) $$ Ht
  rw [show (bigSep Finset.univ fun thr : Thread nD τ => bigSep Finset.univ fun q : Fin 1 => (PP m).x q thr) = (bigSep Finset.univ fun _ => iprop(emp) : PROP F) from
    bigSep_congr fun _ _ => bigSep_univ_of_subsingleton (0 : Fin 1), emp_threads]
  iempintro

def fq (d : Dev nD) (s' : Phys nD τ sig (Elt F)) : Prop := ∀ b ∈ ucRefs τ sig, s'.mem.mem (d, b) = W4 m d b

theorem hfin (d : Dev nD) (s' : Phys nD τ sig (Elt F)) : iprop(FIN m d ∗ SI s') ⊢ (⌜fq m d s'⌝ : PROP F) :=
  (pointsTo_read_all (ucRefs τ sig) (fun b => (d, b)) (fun b => W4 m d b) s').trans sep_elim_left

/-- What a run ends with: every buffer of @main's at its last value, every semaphore at zero. -/
def QC : PUnit × MemSt nD τ sig (Elt F) → Prop := fun r => (∀ c : Dev nD, ∀ b ∈ ucRefs τ sig, r.2.mem (c, b) = W4 m c b) ∧ r.2.sem = fun _ => 0

set_option backward.isDefEq.respectTransparency.types false in
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main GG (FIN m) (u₀ (F := F)) (sep_elim_left.trans (hu₀ m)) (hmain m ρ) (fq m) (hfin m) (QC m) (fun _ h hz => ⟨h, hz⟩)

end Cert.Proof.Router

end
-- ==== Proof.Frames.lean ====
/-
  What @main's buffers hold at its end, in the two results the vector subcores compute and the logits, and the three
  frames.
-/
module

public import proofs.«01_k».proof.Defs
public import proofs.«01_k».proof.Proof.Main
public import proofs.«01_k».proof.Proof.Gen.ReferenceIdeal.Run
public import proofs.«01_k».proof.Proof.Gen.Kernel

@[expose] public section

noncomputable section

namespace Cert.Proof.Router

open Cert.KernelIdeal Cert.KernelIdeal.Gen
open Idealize.ShloMosaic Idealize.ShloMosaic.TcCoe Idealize.SL.Sem
open Idealize.ShloMosaic.Pipeline (ucRefs)

variable {F : FTy → Type} [FloatOps F] (m : (ℓ : Loc nD τ sig) → Buf (Elt F) ℓ) (d : Dev nD)

theorem V1_arg1 : V1 m d main_arg1 = m ((tc d).loc main_arg1) := by
  show opW.result (opX.result (W0 m d)) (Proc.devRef .tc main_arg1) = _
  rw [StableHlo.unary_result_ne _ _ _ _ _ _ (by decide), StableHlo.reshape_result_ne _ _ _ _ _ _ _ (by decide)]
  rfl
theorem V1_arg0 : V1 m d main_arg0 = m ((tc d).loc main_arg0) := by
  show opW.result (opX.result (W0 m d)) (Proc.devRef .tc main_arg0) = _
  rw [StableHlo.unary_result_ne _ _ _ _ _ _ (by decide), StableHlo.reshape_result_ne _ _ _ _ _ _ _ (by decide)]
  rfl
/-- The region's two operands. -/
theorem V1_x : V1 m d main_v0 = shapeCast S16384x4096 (m ((tc d).loc main_arg0)) shapeCasts_S2x8192x4096_S16384x4096 := by
  show opW.result (opX.result (W0 m d)) (Proc.devRef .tc main_v0) = _
  rw [StableHlo.unary_result_ne _ _ _ _ _ _ (by decide)]
  exact StableHlo.reshape_result ..
theorem V1_w : V1 m d main_v1 = transpose S4096x64 [1, 0] (m ((tc d).loc main_arg1)) transposes_S64x4096_S4096x64_1_0 := by
  show opW.result (opX.result (W0 m d)) (Proc.devRef .tc main_v1) = _
  refine (StableHlo.unary_result ..).trans ?_
  rw [StableHlo.reshape_result_ne _ _ _ _ _ _ _ (by decide)]
  rfl

/-- The buffers the transposes do not write. -/
theorem W4_ne (b : Ref sig .tc) (h4 : b ≠ main_v4) (h5 : b ≠ main_v5) (h6 : b ≠ main_v6) :
    W4 m d (Proc.devRef .tc b) = W3 m d (Proc.devRef .tc b) := by
  unfold W4
  rw [StableHlo.unary_result_ne _ _ _ _ _ _ h6, StableHlo.unary_result_ne _ _ _ _ _ _ h5,
    StableHlo.unary_result_ne _ _ _ _ _ _ h4]

theorem W3_ne (b : Ref sig .tc) (h0 : b ≠ main_v3_0) (h1 : b ≠ main_v3_1) :
    W3 m d (Proc.devRef .tc b) = W2 m d (Proc.devRef .tc b) := by
  unfold W3
  rw [Function.update_of_ne (fun h => h1 (Proc.devRef_injective _ h)), Function.update_of_ne (fun h => h0 (Proc.devRef_injective _ h))]

theorem W4_arg0 : W4 m d (Proc.devRef .tc main_arg0) = m ((tc d).loc main_arg0) := by
  rw [W4_ne m d _ (by decide) (by decide) (by decide), W3_ne m d _ (by decide) (by decide), W2_ne m d _ (by decide) (by decide), V1_arg0]

theorem W4_arg1 : W4 m d (Proc.devRef .tc main_arg1) = m ((tc d).loc main_arg1) := by
  rw [W4_ne m d _ (by decide) (by decide) (by decide), W3_ne m d _ (by decide) (by decide), W2_ne m d _ (by decide) (by decide), V1_arg1]

theorem W3_w : W3 m d (Proc.devRef .tc main_v3_0) = WT (lin (V1 m) d) := by
  unfold W3
  rw [Function.update_of_ne (by decide), Function.update_self]
theorem W3_i : W3 m d (Proc.devRef .tc main_v3_1) = IT (lin (V1 m) d) := by
  unfold W3
  rw [Function.update_self]
theorem W3_l : W3 m d (Proc.devRef .tc main_v2_0) = logitsT (V1 m) d := by
  rw [W3_ne m d _ (by decide) (by decide), W2_logitsT]

/-- The three results. -/
theorem W4_l : W4 m d (Proc.devRef .tc main_v4) = transpose S16384x64 [1, 0] (logitsT (V1 m) d) transposes_S64x16384_S16384x64_1_0 := by
  unfold W4
  rw [StableHlo.unary_result_ne _ _ _ _ _ _ (by decide), StableHlo.unary_result_ne _ _ _ _ _ _ (by decide)]
  refine (StableHlo.unary_result ..).trans ?_
  rw [W3_l]
theorem W4_w : W4 m d (Proc.devRef .tc main_v5) = transpose S16384x8 [1, 0] (WT (lin (V1 m) d)) transposes_S8x16384_S16384x8_1_0 := by
  unfold W4
  rw [StableHlo.unary_result_ne _ _ _ _ _ _ (by decide)]
  refine (StableHlo.unary_result ..).trans ?_
  rw [StableHlo.unary_result_ne _ _ _ _ _ _ (by decide), W3_w]
theorem W4_i : W4 m d (Proc.devRef .tc main_v6) = transpose S16384x8 [1, 0] (IT (lin (V1 m) d)) transposes_S8x16384_S16384x8_1_0 := by
  unfold W4
  refine (StableHlo.unary_result ..).trans ?_
  rw [StableHlo.unary_result_ne _ _ _ _ _ _ (by decide), StableHlo.unary_result_ne _ _ _ _ _ _ (by decide), W3_i]

theorem mem_ucRefs (b : Ref sig .tc) (h : (Proc.devRef (τ := τ) .tc b).isScoped = false) : Proc.devRef .tc b ∈ ucRefs τ sig :=
  Finset.mem_filter.mpr ⟨StableHlo.devRef_mem_tcRefs _, by rw [h]; decide⟩

/-- The run, read at the arguments and the results. -/
theorem run_read [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, (r.2.mem ((tc c).loc main_arg0) = m ((tc c).loc main_arg0) ∧ r.2.mem ((tc c).loc main_arg1) = m ((tc c).loc main_arg1))
        ∧ r.2.mem ((tc c).loc main_v4) = W4 m c (Proc.devRef .tc main_v4) ∧ r.2.mem ((tc c).loc main_v5) = W4 m c (Proc.devRef .tc main_v5)
        ∧ r.2.mem ((tc c).loc main_v6) = W4 m c (Proc.devRef .tc main_v6)) ∧ r.2.sem = fun _ => 0 :=
  (θ_run Cert.KernelIdeal.defs _ _).mono (fun _ h => ⟨fun c =>
    ⟨⟨(h.1 c _ (mem_ucRefs main_arg0 rfl)).trans (W4_arg0 m c), (h.1 c _ (mem_ucRefs main_arg1 rfl)).trans (W4_arg1 m c)⟩,
      h.1 c _ (mem_ucRefs main_v4 rfl), h.1 c _ (mem_ucRefs main_v5 rfl), h.1 c _ (mem_ucRefs main_v6 rfl)⟩, h.2⟩) (run_main m ρ)

/-! ## The frames -/

theorem frame_run (ρ : Dev nD → PrngReg) [∀ e, Nonempty (Elt F e)] :
    θ_run (Cert.KernelIdeal.defs (F := F)) (Cert.KernelIdeal.threads (F := F)) ⟨m, fun _ => 0, ρ⟩ fun r =>
      (∀ c : Dev nD, r.2.mem ((tc c).loc main_arg0) = m ((tc c).loc main_arg0) ∧ r.2.mem ((tc c).loc main_arg1) = m ((tc c).loc main_arg1)) ∧ r.2.sem = fun _ => 0 :=
  (θ_run Cert.KernelIdeal.defs _ _).mono (fun _ h => ⟨fun c => (h.1 c).1, h.2⟩) (run_read m ρ)

/-- The two programs have one table of bodies. -/
theorem defs₀_eq : Cert.Kernel.defs₀ (F := F) = Cert.KernelIdeal.defs₀ := by
  funext p l a
  cases p <;> rcases l with l | l | l <;> rfl

theorem defs_eq : Cert.Kernel.defs (F := F) = Cert.KernelIdeal.defs := by
  unfold Cert.Kernel.defs
  rw [defs₀_eq]
  rfl

theorem frame_kernel : Cert.quiescent_Kernel := fun m ρ _ => defs_eq (F := Bits) ▸ frame_run (F := Bits) m ρ

theorem frame_ideal : Cert.quiescent_KernelIdeal := fun m ρ _ => frame_run m ρ

theorem frame_ideal_finite [Cert.Pre_finite.Facts] : Cert.quiescent_KernelIdeal_pre_finite := fun m ρ _ => frame_run m ρ

theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((tc c).loc Cert.ReferenceIdeal.main_arg0) = m ((tc c).loc Cert.ReferenceIdeal.main_arg0)
        ∧ r.2.mem ((tc c).loc Cert.ReferenceIdeal.main_arg1) = m ((tc c).loc Cert.ReferenceIdeal.main_arg1)) ∧ r.2.sem = fun _ => 0 :=
  (θ_run Cert.ReferenceIdeal.defs _ _).mono (fun r h => ⟨fun c => ⟨(h c).2.2.2.1, (h c).2.2.2.2⟩, sem_eq_zero_of_no_sems (by decide) r.2⟩)
    (Cert.ReferenceIdeal.Value.run (F := Ideal) m ρ)

theorem frame_reference : Cert.quiescent_ReferenceIdeal := fun m ρ _ => reference_run m ρ

theorem frame_reference_finite [Cert.Pre_finite.Facts] : Cert.quiescent_ReferenceIdeal_pre_finite := fun m ρ _ => reference_run m ρ

end Cert.Proof.Router

end
-- ==== Proof.Counting.lean ====
/-
  The k-th greatest of finitely many numbers by counting, and what a merge of two sorted sixteens keeps.
-/
module

public import proofs.«01_k».proof.Proof.Scatter

@[expose] public section

noncomputable section

namespace Cert.Proof.Router

open Classical in
/-- How many of the entries of `k` have the property `P`. -/
def cnt {n : ℕ} {α : Type} (k : Fin n → α) (P : α → Prop) : ℕ := (Finset.univ.filter fun i => P (k i)).card

/-- A property that passes to greater numbers. -/
def Upper {α : Type} [LinearOrder α] (P : α → Prop) : Prop := ∀ a b, a ≤ b → P a → P b

/-- `y` is the `j`-th greatest entry of `x`, counted from 0. -/
def IsKth {n : ℕ} {α : Type} [LinearOrder α] (x : Fin n → α) (j : ℕ) (y : α) : Prop :=
  cnt x (fun a => y < a) ≤ j ∧ j < cnt x (fun a => y ≤ a)

variable {α : Type} [LinearOrder α]

theorem upper_lt (y : α) : Upper fun a => y < a := fun _ _ h h' => lt_of_lt_of_le h' h
theorem upper_le (y : α) : Upper fun a => y ≤ a := fun _ _ h h' => le_trans h' h

theorem cnt_mono {β : Type} {n : ℕ} (x : Fin n → β) (P Q : β → Prop) (h : ∀ i, P (x i) → Q (x i)) : cnt x P ≤ cnt x Q := by
  classical
  unfold cnt
  exact Finset.card_le_card fun i hi => by
    rw [Finset.mem_filter] at hi ⊢; exact ⟨hi.1, h i hi.2⟩

theorem cnt_none {β : Type} {n : ℕ} (x : Fin n → β) (P : β → Prop) (h : ∀ i, ¬ P (x i)) : cnt x P = 0 := by
  classical
  unfold cnt
  exact Finset.card_eq_zero.mpr (Finset.eq_empty_of_forall_notMem fun i hi => h i (Finset.mem_filter.mp hi).2)

theorem kth_unique {n : ℕ} (x : Fin n → α) (j : ℕ) (y y' : α) (h : IsKth x j y) (h' : IsKth x j y') : y = y' := by
  rcases lt_trichotomy y y' with hl | hl | hl
  · have := cnt_mono x (fun a => y' ≤ a) (fun a => y < a) fun i hi => lt_of_lt_of_le hl hi
    exact absurd (lt_of_lt_of_le h'.2 (this.trans h.1)) (lt_irrefl _)
  · exact hl
  · have := cnt_mono x (fun a => y ≤ a) (fun a => y' < a) fun i hi => lt_of_lt_of_le hl hi
    exact absurd (lt_of_lt_of_le h.2 (this.trans h'.1)) (lt_irrefl _)

/-- A count is the same of the entries in another order. -/
theorem cnt_perm {β : Type} {n : ℕ} (x y : Fin n → β) (σ : Fin n → Fin n) (hσ : Function.Injective σ) (h : ∀ i, y (σ i) = x i) (P : β → Prop) :
    cnt y P = cnt x P := by
  classical
  unfold cnt
  symm
  have hb : Function.Surjective σ := Finite.surjective_of_injective hσ
  refine Finset.card_bij (fun i _ => σ i) (fun i hi => ?_) (fun i _ i' _ e => hσ e) (fun b hb' => ?_)
  · rw [Finset.mem_filter] at hi ⊢; rw [h]; exact ⟨Finset.mem_univ _, hi.2⟩
  · obtain ⟨i, rfl⟩ := hb b
    rw [Finset.mem_filter, h] at hb'
    exact ⟨i, Finset.mem_filter.mpr ⟨Finset.mem_univ _, hb'.2⟩, rfl⟩

/-- Of a decreasing sequence, the entries with an upper property are its first ones. -/
theorem cnt_first {n : ℕ} (k : Fin n → α) (hk : Antitone k) (P : α → Prop) (hP : Upper P) (i : Fin n) : P (k i) ↔ i.val < cnt k P := by
  classical
  constructor
  · intro hi
    have : (Finset.Iic i).card ≤ cnt k P := Finset.card_le_card fun j hj =>
      Finset.mem_filter.mpr ⟨Finset.mem_univ _, hP _ _ (hk (Finset.mem_Iic.mp hj)) hi⟩
    rw [Fin.card_Iic] at this
    omega
  · intro hi
    by_contra hn
    have : cnt k P ≤ (Finset.Iio i).card := Finset.card_le_card fun j hj => by
      rw [Finset.mem_Iio]
      by_contra hji
      exact hn (hP _ _ (hk (not_lt.mp hji)) (Finset.mem_filter.mp hj).2)
    rw [Fin.card_Iio] at this
    omega

theorem kth_antitone {n : ℕ} (k : Fin n → α) (hk : Antitone k) (j : Fin n) : IsKth k j.val (k j) := by
  refine ⟨?_, (cnt_first k hk _ (upper_le (k j)) j).mp le_rfl⟩
  by_contra h
  exact lt_irrefl _ ((cnt_first k hk _ (upper_lt (k j)) j).mpr (not_le.mp h))

/-- The entries of `x` sorted: entry `j` is the `j`-th greatest. -/
theorem kth_sorted {n : ℕ} (x : Fin n → α) (σ : Fin n → Fin n) (hσ : Function.Injective σ) (hs : Antitone fun j => x (σ j)) (j : Fin n) :
    IsKth x j.val (x (σ j)) := by
  have h := kth_antitone _ hs j
  unfold IsKth at h ⊢
  rwa [cnt_perm (fun j => x (σ j)) x σ hσ (fun _ => rfl), cnt_perm (fun j => x (σ j)) x σ hσ (fun _ => rfl)]

theorem cnt_le {β : Type} {n : ℕ} (x : Fin n → β) (P : β → Prop) : cnt x P ≤ n := by
  classical
  unfold cnt
  exact (Finset.card_le_univ _).trans (by rw [Fintype.card_fin])

theorem count_or : ∀ p q : Fin 17, (Finset.univ.filter fun i : Fin 16 => i.val < p.val ∨ 15 - i.val < q.val).card = min 16 (p.val + q.val) := by
  decide +kernel

/-- The position-for-position greater of a decreasing sixteen and a reversed one: how many have an upper property. -/
theorem cnt_max (a b m : Fin 16 → α) (ha : Antitone a) (hb : Antitone b) (hm : ∀ i, m i = max (a i) (b (Fin.rev i))) (P : α → Prop) (hP : Upper P) :
    cnt m P = min 16 (cnt a P + cnt b P) := by
  classical
  have h := count_or ⟨cnt a P, Nat.lt_succ_of_le (cnt_le a P)⟩ ⟨cnt b P, Nat.lt_succ_of_le (cnt_le b P)⟩
  rw [← h]
  unfold cnt
  refine congrArg Finset.card (Finset.filter_congr fun i _ => ?_)
  have e1 := cnt_first a ha P hP i
  have e2 := cnt_first b hb P hP (Fin.rev i)
  have e3 : (Fin.rev i).val = 15 - i.val := by rw [Fin.val_rev]; omega
  rw [e3] at e2
  unfold cnt at e1 e2
  show P (m i) ↔ (i.val < _ ∨ 15 - i.val < _)
  rw [← e1, ← e2, hm]
  rcases le_total (a i) (b (Fin.rev i)) with hl | hl
  · rw [max_eq_right hl]; exact ⟨Or.inr, fun h => h.elim (hP _ _ hl) id⟩
  · rw [max_eq_left hl]; exact ⟨Or.inl, fun h => h.elim id (hP _ _ hl)⟩

/-- `k` is the sixteen greatest, in decreasing order, of numbers counted by `C`. -/
structure Tops (C : (α → Prop) → ℕ) (k : Fin 16 → α) : Prop where
  anti : Antitone k
  count : ∀ P, Upper P → cnt k P = min 16 (C P)

theorem Tops.kth {n : ℕ} {x : Fin n → α} {k : Fin 16 → α} (h : Tops (cnt x) k) (j : Fin 16) : IsKth x j.val (k j) := by
  have hj := kth_antitone k h.anti j
  have h1 := h.count _ (upper_lt (k j))
  have h2 := h.count _ (upper_le (k j))
  have := j.isLt
  obtain ⟨a, b⟩ := hj
  constructor <;> omega

/-- Sixty-four entries counted by their four parts. -/
theorem cnt_parts {β : Type} (x : Fin 64 → β) (p : Fin 4 → Fin 16 → β) (hp : ∀ q i, p q i = x ⟨q.val * 16 + i.val, by omega⟩) (P : β → Prop) :
    cnt x P = (cnt (p 0) P + cnt (p 1) P) + (cnt (p 2) P + cnt (p 3) P) := by
  classical
  let f : Fin 4 × Fin 16 ≃ Fin 64 := finProdFinEquiv
  have hf : ∀ q i, f (q, i) = ⟨q.val * 16 + i.val, by omega⟩ := fun q i => Fin.ext (by
    show i.val + 16 * q.val = q.val * 16 + i.val
    omega)
  have e : ∀ q, cnt (p q) P = ∑ i : Fin 16, if P (x (f (q, i))) then 1 else 0 := fun q => by
    unfold cnt
    rw [Finset.card_filter]
    exact Finset.sum_congr rfl fun i _ => by rw [hp, hf]
  have h : cnt x P = ∑ q : Fin 4, cnt (p q) P := by
    simp only [e]
    unfold cnt
    rw [Finset.card_filter, ← Equiv.sum_comp f fun e => if P (x e) then 1 else 0]
    exact Fintype.sum_prod_type (fun c : Fin 4 × Fin 16 => if P (x (f c)) then 1 else 0)
  rw [h, Fin.sum_univ_four]
  omega

end Cert.Proof.Router

end
-- ==== Proof.Rank.lean ====
/-
  The rank of a key among sixteen, as a count, and the sort of sixteen keys it gives.
-/
module

public import proofs.«01_k».proof.Proof.Counting
public import Idealize.ShloMosaic.PureOps.Ideal.Laws

@[expose] public section

noncomputable section

namespace Cert.Proof.Router

open Cert.KernelIdeal Cert.KernelIdeal.Gen
open Idealize.ShloMosaic

/-! ## The order -/

section Order

variable {α : Type} [LinearOrder α]

/-- Key `j` comes before key `i`: it is greater, or equal and earlier. -/
def Bef (k : Fin 16 → α) (j i : Fin 16) : Prop := k i < k j ∨ (k j = k i ∧ j < i)

theorem bef_irrefl (k : Fin 16 → α) (i : Fin 16) : ¬ Bef k i i := by
  rintro (h | ⟨_, h⟩)
  · exact lt_irrefl _ h
  · exact lt_irrefl _ h

theorem bef_trans (k : Fin 16 → α) (a b c : Fin 16) (h : Bef k a b) (h' : Bef k b c) : Bef k a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem bef_total (k : Fin 16 → α) (a b : Fin 16) (h : a ≠ b) : Bef k a b ∨ Bef k b a := by
  rcases lt_trichotomy (k a) (k b) with hl | hl | hl
  · exact .inr (.inl hl)
  · rcases lt_or_gt_of_ne h with h | h
    · exact .inl (.inr ⟨hl, h⟩)
    · exact .inr (.inr ⟨hl.symm, h⟩)
  · exact .inl (.inl hl)

/-- How many keys come before key `i`. -/
def rk (k : Fin 16 → α) (i : Fin 16) : ℕ := cnt id fun j => Bef k j i

theorem rk_lt (k : Fin 16 → α) (a b : Fin 16) (h : Bef k a b) : rk k a < rk k b := by
  classical
  unfold rk cnt
  refine Finset.card_lt_card (Finset.ssubset_iff_of_subset (fun j hj => ?_) |>.mpr ⟨a, ?_, ?_⟩)
  · rw [Finset.mem_filter] at hj ⊢; exact ⟨hj.1, bef_trans k _ _ _ hj.2 h⟩
  · exact Finset.mem_filter.mpr ⟨Finset.mem_univ _, h⟩
  · rw [Finset.mem_filter]; exact fun h' => bef_irrefl k a h'.2

theorem rk_bound (k : Fin 16 → α) (i : Fin 16) : rk k i < 16 := by
  classical
  have : rk k i < (Finset.univ : Finset (Fin 16)).card := by
    unfold rk cnt
    refine Finset.card_lt_card (Finset.ssubset_iff_of_subset (Finset.subset_univ _) |>.mpr ⟨i, Finset.mem_univ _, ?_⟩)
    rw [Finset.mem_filter]; exact fun h' => bef_irrefl k i h'.2
  rwa [Finset.card_univ, Fintype.card_fin] at this

/-- The place of key `i` in the sorted keys. -/
def place (k : Fin 16 → α) (i : Fin 16) : Fin 16 := ⟨rk k i, rk_bound k i⟩

theorem place_injective (k : Fin 16 → α) : Function.Injective (place k) := by
  intro a b h
  have h : rk k a = rk k b := congrArg Fin.val h
  by_contra hn
  rcases bef_total k a b hn with h' | h'
  · exact absurd h (ne_of_lt (rk_lt k _ _ h'))
  · exact absurd h.symm (ne_of_lt (rk_lt k _ _ h'))

theorem place_surjective (k : Fin 16 → α) : Function.Surjective (place k) := Finite.surjective_of_injective (place_injective k)

/-- The sorted keys decrease. -/
theorem place_antitone (k s : Fin 16 → α) (h : ∀ i, s (place k i) = k i) : Antitone s := by
  intro a b hab
  obtain ⟨i, rfl⟩ := place_surjective k a
  obtain ⟨j, rfl⟩ := place_surjective k b
  rw [h, h]
  by_contra hn
  exact absurd (rk_lt k j i (.inl (not_le.mp hn))) (not_lt.mpr hab)

theorem cnt_succ (P : Fin 16 → Prop) (n : ℕ) (hn : n < 16) [Decidable (P ⟨n, hn⟩)] :
    cnt id (fun j : Fin 16 => j.val < n + 1 ∧ P j) = cnt id (fun j : Fin 16 => j.val < n ∧ P j) + if P ⟨n, hn⟩ then 1 else 0 := by
  classical
  unfold cnt
  by_cases h : P ⟨n, hn⟩
  · rw [if_pos h]
    rw [← Finset.card_insert_of_notMem (a := (⟨n, hn⟩ : Fin 16)) (by simp)]
    refine congrArg Finset.card ?_
    ext j
    simp only [id, Finset.mem_filter, Finset.mem_univ, true_and, Finset.mem_insert]
    constructor
    · rintro ⟨hj, hp⟩
      rcases Nat.lt_succ_iff_lt_or_eq.mp hj with hj | hj
      · exact .inr ⟨hj, hp⟩
      · exact .inl (Fin.ext hj)
    · rintro (rfl | ⟨hj, hp⟩)
      · exact ⟨Nat.lt_succ_self n, h⟩
      · exact ⟨Nat.lt_succ_of_lt hj, hp⟩
  · rw [if_neg h]
    refine (congrArg Finset.card ?_).trans (Nat.add_zero _).symm
    ext j
    simp only [id, Finset.mem_filter, Finset.mem_univ, true_and]
    constructor
    · rintro ⟨hj, hp⟩
      rcases Nat.lt_succ_iff_lt_or_eq.mp hj with hj | hj
      · exact ⟨hj, hp⟩
      · exact absurd (show P ⟨n, hn⟩ from (Fin.ext hj : j = ⟨n, hn⟩) ▸ hp) h
    · rintro ⟨hj, hp⟩; exact ⟨Nat.lt_succ_of_lt hj, hp⟩

end Order

/-! ## The kernel's ranks -/

/-- The lanes of a vector. -/
def keys {α : Type} (k : S16.Idx → α) : Fin 16 → α := fun i => k (ln i)

theorem lt_lane : ∀ (n i : Fin 16), (cmpi .sgt lanes (broadcast S16 (Scf.iv 0#32 1#32 n)) (ln i) = 1) ↔ n.val < i.val := by
  decide +kernel

theorem ofBool_one (p : Prop) [Decidable p] : (BitVec.ofBool (decide p) = 1) ↔ p := by
  by_cases h : p
  · rw [decide_eq_true h]; exact iff_of_true rfl h
  · rw [decide_eq_false h]; exact iff_of_false (by decide) h

theorem cmp_oge (a b : EReal) : (Ideal.cmp .oge a b = 1) ↔ b ≤ a := ofBool_one _
theorem cmp_ogt (a b : EReal) : (Ideal.cmp .ogt a b = 1) ↔ b < a := ofBool_one _
theorem cmp_oeq (a b : EReal) : (Ideal.cmp .oeq a b = 1) ↔ a = b := ofBool_one _

open Classical in
theorem pay4_eq (k : Vec Ideal S16 .f32) (n i : Fin 16) (acc : IVec S16 32) :
    k1_pay4 k lanes n acc (fun _ => k (ln n)) (ln i) = acc (ln i) + if Bef (α := EReal) (keys k) n i then 1#32 else 0#32 := by
  show Scalar.select (Scalar.select (cmpi .sgt lanes (broadcast S16 (Scf.iv 0#32 1#32 n)) (ln i)) (Ideal.cmp .oge (keys k n) (keys k i)) (Ideal.cmp .ogt (keys k n) (keys k i)))
    (acc (ln i) + 1#32) (acc (ln i)) = _
  unfold Scalar.select
  have hb : Bef (α := EReal) (keys k) n i ↔ (if n.val < i.val then (keys k i : EReal) ≤ keys k n else (keys k i : EReal) < keys k n) := by
    unfold Bef
    by_cases h : n.val < i.val
    · rw [if_pos h]
      exact ⟨fun h' => h'.elim le_of_lt fun h' => le_of_eq h'.1.symm, fun h' => (lt_or_eq_of_le h').elim .inl fun e => .inr ⟨e.symm, h⟩⟩
    · rw [if_neg h]
      exact ⟨fun h' => h'.elim id fun h' => absurd h'.2 h, .inl⟩
  by_cases h : n.val < i.val
  · rw [if_pos ((lt_lane n i).mpr h)]
    rw [if_pos h] at hb
    by_cases h' : Bef (α := EReal) (keys k) n i
    · rw [if_pos ((cmp_oge _ _).mpr (hb.mp h')), if_pos h']
    · rw [if_neg fun h'' => h' (hb.mpr ((cmp_oge _ _).mp h'')), if_neg h', BitVec.add_zero]
  · rw [if_neg fun h' => h ((lt_lane n i).mp h')]
    rw [if_neg h] at hb
    by_cases h' : Bef (α := EReal) (keys k) n i
    · rw [if_pos ((cmp_ogt _ _).mpr (hb.mp h')), if_pos h']
    · rw [if_neg fun h'' => h' (hb.mpr ((cmp_ogt _ _).mp h'')), if_neg h', BitVec.add_zero]

theorem rankTo_succ (k : Vec Ideal S16 .f32) (n : ℕ) (h : n < 16) :
    rankTo k (n + 1) = k1_pay4 k lanes ⟨n, h⟩ (rankTo k n) (fun _ => k (ln ⟨n, h⟩)) := dif_pos h

theorem rankTo_eq (k : Vec Ideal S16 .f32) (i : Fin 16) (n : ℕ) (hn : n ≤ 16) :
    rankTo k n (ln i) = BitVec.ofNat 32 (cnt id fun j : Fin 16 => j.val < n ∧ Bef (α := EReal) (keys k) j i) := by
  classical
  induction n with
  | zero =>
    have h : (cnt id fun j : Fin 16 => j.val < 0 ∧ Bef (α := EReal) (keys k) j i) = 0 :=
      cnt_none _ _ fun _ h => absurd h.1 (Nat.not_lt_zero _)
    rw [h]
    rfl
  | succ n ih =>
    have hn' : n < 16 := hn
    rw [cnt_succ _ n hn', BitVec.ofNat_add, ← ih (le_of_lt hn')]
    rw [rankTo_succ k n hn']
    refine (pay4_eq k ⟨n, hn'⟩ i _).trans ?_
    by_cases h : Bef (α := EReal) (keys k) ⟨n, hn'⟩ i
    · rw [if_pos h, if_pos h]
    · rw [if_neg h, if_neg h]

theorem rank_eq (k : Vec Ideal S16 .f32) (i : Fin 16) : (rank k (ln i)).toNat = (place (α := EReal) (keys k) i).val := by
  have h : rankTo k 16 (ln i) = BitVec.ofNat 32 (rk (α := EReal) (keys k) i) := by
    rw [rankTo_eq k i 16 le_rfl]
    exact congrArg (BitVec.ofNat 32) (congrArg (cnt id) (funext fun j => propext ⟨fun h => h.2, fun h => ⟨j.isLt, h⟩⟩))
  have hb := rk_bound (α := EReal) (keys k) i
  show (rankTo k 16 (ln i) &&& 15#32).toNat = rk (α := EReal) (keys k) i
  rw [h, BitVec.toNat_and, BitVec.toNat_ofNat, Nat.mod_eq_of_lt (by omega)]
  exact (Nat.and_two_pow_sub_one_eq_mod _ 4).trans (Nat.mod_eq_of_lt hb)

theorem ln_val (j : Fin 16) (a : Fin S16.rank) : (ln j a).val = j.val := rfl

/-- The sorted keys at the place of key `i`, -/
theorem sortK_place (k : Vec Ideal S16 .f32) (i : Fin 16) : sortK k (ln (place (α := EReal) (keys k) i)) = k (ln i) := by
  unfold sortK
  apply storeIdx16
  · intro j _ hj
    have h := (hj 0).trans (rank_eq k j)
    exact congrArg (fun j => k (ln j)) (place_injective (α := EReal) (keys k) (Fin.ext h)).symm
  · exact .inr ⟨i, rfl, fun a => match a with | 0 => (rank_eq k i).symm⟩

/-- and the values carried there. -/
theorem sortV_place (k : Vec Ideal S16 .f32) (v : Vec Ideal S16 .i32) (i : Fin 16) : sortV k v (ln (place (α := EReal) (keys k) i)) = v (ln i) := by
  unfold sortV
  apply storeIdx16
  · intro j _ hj
    have h := (hj 0).trans (rank_eq k j)
    exact congrArg (fun j => v (ln j)) (place_injective (α := EReal) (keys k) (Fin.ext h)).symm
  · exact .inr ⟨i, rfl, fun a => match a with | 0 => (rank_eq k i).symm⟩

/-! ## What the sorts and the merges keep -/

/-- The sixteen keys and values hold the greatest of the numbers `x`, counted by `C`, each with its index. -/
structure Holds (x : Fin 64 → EReal) (C : (EReal → Prop) → ℕ) (p : Vec Ideal S16 .f32 × Vec Ideal S16 .i32) : Prop where
  tops : Tops (α := EReal) C (keys p.1)
  index : ∀ i, ∃ e : Fin 64, p.2 (ln i) = BitVec.ofNat 32 e.val ∧ x e = p.1 (ln i)

/-- A sort of sixteen holds them all. -/
theorem holds_sort (x : Fin 64 → EReal) (C : (EReal → Prop) → ℕ) (k : Vec Ideal S16 .f32) (v : Vec Ideal S16 .i32)
    (hC : ∀ P, Upper P → cnt (α := EReal) (keys k) P = min 16 (C P)) (hv : ∀ i, ∃ e : Fin 64, v (ln i) = BitVec.ofNat 32 e.val ∧ x e = k (ln i)) :
    Holds x C (sortK k, sortV k v) where
  tops := {
    anti := place_antitone (α := EReal) (keys k) _ (sortK_place k)
    count := fun P hP => (cnt_perm (β := EReal) (keys k) _ _ (place_injective (α := EReal) (keys k)) (sortK_place k) P).trans (hC P hP) }
  index := fun i => by
    obtain ⟨j, rfl⟩ := place_surjective (α := EReal) (keys k) i
    obtain ⟨e, h1, h2⟩ := hv j
    exact ⟨e, (sortV_place k v j).trans h1, h2.trans (sortK_place k j).symm⟩

theorem rev_ln {α : Type} (x : S16.Idx → α) (i : Fin 16) : rev x (ln i) = x (ln (Fin.rev i)) := rfl

/-- A merge of two holds the greatest of both. -/
theorem holds_merge (x : Fin 64 → EReal) (C C' : (EReal → Prop) → ℕ) (a b : Vec Ideal S16 .f32 × Vec Ideal S16 .i32)
    (ha : Holds x C a) (hb : Holds x C' b) : Holds x (fun P => C P + C' P) (merge a b) := by
  have hk : ∀ i, k1_pay24 a.1 (rev b.1) (ln i) = max (keys a.1 i : EReal) (keys b.1 (Fin.rev i)) := fun i => by
    show Scalar.select (Ideal.cmp .oge (a.1 (ln i)) (b.1 (ln (Fin.rev i)))) (a.1 (ln i)) (b.1 (ln (Fin.rev i))) = _
    unfold Scalar.select
    by_cases h : (b.1 (ln (Fin.rev i)) : EReal) ≤ a.1 (ln i)
    · rw [if_pos ((cmp_oge _ _).mpr h)]; exact (max_eq_left h).symm
    · rw [if_neg fun h' => h ((cmp_oge _ _).mp h')]; exact (max_eq_right (le_of_not_ge h)).symm
  refine holds_sort x _ _ _ (fun P hP => ?_) (fun i => ?_)
  · rw [cnt_max (α := EReal) (keys a.1) (keys b.1) (keys (k1_pay24 a.1 (rev b.1))) ha.tops.anti hb.tops.anti hk P hP, ha.tops.count P hP, hb.tops.count P hP]
    omega
  · show ∃ e : Fin 64, Scalar.select (Ideal.cmp .oge (a.1 (ln i)) (b.1 (ln (Fin.rev i)))) (a.2 (ln i)) (b.2 (ln (Fin.rev i))) = _ ∧ x e = k1_pay24 a.1 (rev b.1) (ln i)
    rw [hk]
    unfold Scalar.select
    by_cases h : (b.1 (ln (Fin.rev i)) : EReal) ≤ a.1 (ln i)
    · rw [if_pos ((cmp_oge _ _).mpr h), show max (keys a.1 i : EReal) (keys b.1 (Fin.rev i)) = a.1 (ln i) from max_eq_left h]
      exact ha.index i
    · rw [if_neg fun h' => h ((cmp_oge _ _).mp h'), show max (keys a.1 i : EReal) (keys b.1 (Fin.rev i)) = b.1 (ln (Fin.rev i)) from max_eq_right (le_of_not_ge h)]
      exact hb.index (Fin.rev i)

theorem lane_index : ∀ (i : Fin 16), k1_pay1 lanes (ln i) = BitVec.ofNat 32 (0 * 16 + i.val) ∧ k1_pay6 lanes (ln i) = BitVec.ofNat 32 (1 * 16 + i.val)
    ∧ k1_pay11 lanes (ln i) = BitVec.ofNat 32 (2 * 16 + i.val) ∧ k1_pay16 lanes (ln i) = BitVec.ofNat 32 (3 * 16 + i.val) := by
  decide +kernel

/-- The kernel's top sixteen of a row are the row's sixteen greatest, each with its expert. -/
theorem holds_top (x : Fin 64 → Ideal .f32) : Holds x (cnt (α := EReal) x) (top (F := Ideal) x) := by
  have hs : ∀ (q : Fin 4) (v : Vec Ideal S16 .i32), (∀ i : Fin 16, v (ln i) = BitVec.ofNat 32 (q.val * 16 + i.val)) →
      Holds x (cnt (α := EReal) (keys (part (F := Ideal) x q))) (sortK (part (F := Ideal) x q), sortV (part (F := Ideal) x q) v) := fun q v hv =>
    holds_sort x _ _ _ (fun P _ => (min_eq_right (cnt_le (β := EReal) _ P)).symm) fun i => ⟨⟨q.val * 16 + i.val, by omega⟩, hv i, rfl⟩
  have h := holds_merge x _ _ _ _
    (holds_merge x _ _ _ _ (hs 0 _ fun i => (lane_index i).1) (hs 1 _ fun i => (lane_index i).2.1))
    (holds_merge x _ _ _ _ (hs 2 _ fun i => (lane_index i).2.2.1) (hs 3 _ fun i => (lane_index i).2.2.2))
  have e : cnt (α := EReal) x = _ := funext fun P => cnt_parts (β := EReal) x (fun q => keys (part (F := Ideal) x q)) (fun _ _ => rfl) P
  rw [e]
  exact h

end Cert.Proof.Router

end
-- ==== Proof.Softmax.lean ====
/-
  The kernel's weights of sixteen finite logits: a softmax over the first eight of them.
-/
module

public import proofs.«01_k».proof.Proof.Rank

@[expose] public section

noncomputable section

namespace Cert.Proof.Router

open Cert.KernelIdeal Cert.KernelIdeal.Gen
open Idealize.ShloMosaic

/-! ## Real numbers among the extended ones -/

theorem coe_max' (a b : ℝ) : max (a : EReal) (b : EReal) = ((max a b : ℝ) : EReal) := (EReal.coe_strictMono.monotone.map_max).symm

theorem exp_coe (a : ℝ) : Ideal.exp (a : EReal) = ((Real.exp a : ℝ) : EReal) := rfl

theorem div_coe (a b : ℝ) (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A softmax renormalised over some of its entries is the softmax of those entries, whatever number is taken off. -/
theorem renorm {n : ℕ} (t : Fin n → ℝ) (M M' Z : ℝ) (hZ : Z ≠ 0) (j : Fin n) :
    (Real.exp (t j - M) / Z) / ∑ i, Real.exp (t i - M) / Z = Real.exp (t j - M') / ∑ i, Real.exp (t i - M') := by
  have e : ∀ i, Real.exp (t i - M) = Real.exp (t i - M') * Real.exp (M' - M) := fun i => by
    rw [← Real.exp_add]; congr 1; ring
  have hs : ∑ i, Real.exp (t i - M) / Z = (∑ i, Real.exp (t i - M')) * (Real.exp (M' - M) / Z) := by
    rw [Finset.sum_mul]
    exact Finset.sum_congr rfl fun i _ => by rw [e]; ring
  rw [hs, e, mul_div_assoc]
  exact mul_div_mul_right _ _ (div_ne_zero (Real.exp_ne_zero _) hZ)

/-! ## The kernel's row of weights -/

theorem slice_lt {n : ℕ} (h : S16.Slices ![n] S1) : n < 16 := by
  have h0 : n + 1 ≤ 16 := h.2 0
  omega

theorem extract_eq {α : Type} (v : S16.Idx → α) (n : ℕ) (h : S16.Slices ![n] S1) (h') :
    extractAt ![0] (extractStridedSlice S1 ![n] v h) h' = v (ln ⟨n, slice_lt h⟩) := by
  unfold extractAt extractStridedSlice
  congr 1
  funext a
  match a with | 0 => rfl

/-- The greatest of sixteen lanes, as the kernel folds it. -/
def max16 (t : Fin 16 → EReal) : EReal :=
  max (max (max (max (max (max (max (max (max (max (max (max (max (max (max (t 0) (t 1)) (t 2)) (t 3)) (t 4)) (t 5)) (t 6)) (t 7)) (t 8)) (t 9)) (t 10)) (t 11)) (t 12)) (t 13)) (t 14)) (t 15)

/-- The sum of sixteen lanes, as the kernel folds it. -/
def sum16 (t : Fin 16 → EReal) : EReal :=
  t 0 + t 1 + t 2 + t 3 + t 4 + t 5 + t 6 + t 7 + t 8 + t 9 + t 10 + t 11 + t 12 + t 13 + t 14 + t 15

/-- The lanes' exponentials, the last eight put to zero. -/
def exp16 (t : Fin 16 → EReal) (i : Fin 16) : EReal := if i.val < 8 then Ideal.exp (t i - max16 t) else 0

theorem pay47_eq (k : Vec Ideal S16 .f32) (i : Fin 16) : k1_pay47 k1_pay50 k (k1_pay45 k) (k1_pay46 k) (ln i) = exp16 (keys k) i := by
  have h : k1_pay47 k1_pay50 k (k1_pay45 k) (k1_pay46 k) (ln i) = Scalar.select (k1_pay50 (ln i)) (Ideal.exp (keys k i - max16 (keys k))) (Ideal.ofBits .f32 0x00000000#32) := by
    unfold k1_pay47 k1_pay45 k1_pay46
    simp only [extract_eq]
    rfl
  rw [h]
  unfold Scalar.select exp16
  by_cases hi : i.val < 8
  · rw [if_pos ((pay50_eq i).mpr hi), if_pos hi]
  · rw [if_neg fun h => hi ((pay50_eq i).mp h), if_neg hi]
    exact Idealize.ShloMosaic.Ideal.ofBits_zero_f32

theorem wRow_eq (k : Vec Ideal S16 .f32) (i : Fin 16) : wRow k (ln i) = Ideal.div (exp16 (keys k) i) (sum16 (exp16 (keys k))) := by
  have h : wRow k (ln i) = Ideal.div (keys (k1_pay47 k1_pay50 k (k1_pay45 k) (k1_pay46 k)) i) (sum16 (keys (k1_pay47 k1_pay50 k (k1_pay45 k) (k1_pay46 k)))) := by
    unfold wRow k1_pay51 k1_pay48 k1_pay49
    simp only [extract_eq]
    rfl
  rw [h, show keys (k1_pay47 k1_pay50 k (k1_pay45 k) (k1_pay46 k)) = exp16 (keys k) from funext (pay47_eq k)]

/-- The weights of sixteen finite logits. -/
theorem wRow_real (k : Vec Ideal S16 .f32) (t : Fin 16 → ℝ) (ht : ∀ i, k (ln i) = ((t i : ℝ) : EReal)) :
    ∃ M : ℝ, ∀ j : Fin 8, wRow k (ln ⟨j.val, by omega⟩) = ((Real.exp (t ⟨j.val, by omega⟩ - M) / ∑ i : Fin 8, Real.exp (t ⟨i.val, by omega⟩ - M) : ℝ) : EReal) := by
  have hk : keys k = fun i => ((t i : ℝ) : EReal) := funext ht
  obtain ⟨M, hM⟩ : ∃ M : ℝ, max16 (keys k) = (M : EReal) := by
    rw [hk]
    unfold max16
    simp only [coe_max']
    exact ⟨_, rfl⟩
  refine ⟨M, fun j => ?_⟩
  have he : ∀ j : Fin 8, exp16 (keys k) ⟨j.val, by omega⟩ = ((Real.exp (t ⟨j.val, by omega⟩ - M) : ℝ) : EReal) := fun j => by
    unfold exp16
    rw [if_pos j.isLt, hM, hk, ← EReal.coe_sub, exp_coe]
  have hz : ∀ i : Fin 16, 8 ≤ i.val → exp16 (keys k) i = 0 := fun i hi => if_neg (not_lt.mpr hi)
  have hs : sum16 (exp16 (keys k)) = ((∑ i : Fin 8, Real.exp (t ⟨i.val, by omega⟩ - M) : ℝ) : EReal) := by
    rw [← coe_sum, Fin.sum_univ_eight]
    simp only [← he]
    unfold sum16
    rw [hz 8 (by decide), hz 9 (by decide), hz 10 (by decide), hz 11 (by decide), hz 12 (by decide), hz 13 (by decide), hz 14 (by decide), hz 15 (by decide)]
    simp only [add_zero]
    rfl
  rw [wRow_eq, hs, he, div_coe]
  exact ne_of_gt (Finset.sum_pos (fun i _ => Real.exp_pos _) Finset.univ_nonempty)

end Cert.Proof.Router

end
-- ==== Proof.Reference.lean ====
/-
  The reference's softmax, its eight greatest with their experts and its weights, at a row and a place.
-/
module

public import proofs.«01_k».proof.Proof.Softmax
public import proofs.«01_k».proof.Proof.Gen.ReferenceIdeal.Run
public import Idealize.ShloMosaic.Lib.Pointwise
public import Idealize.ShloMosaic.Lib.SortFacts

@[expose] public section

noncomputable section

namespace Cert.Proof.Router

open Cert.ReferenceIdeal Cert.ReferenceIdeal.Gen
open Idealize.ShloMosaic

/-- A row's greatest logit, as the reference takes it off. -/
def refMax (X : FVec Ideal S16384x64 .f32) : FVec Ideal S16384 .f32 :=
  maximumf (broadcastInDim S16384 ![] bcast_S_S16384 (constant S_ .f32 0xFF800000#32))
    (Host.reduce FloatOps.maximumf X (constant S_ .f32 0xFF800000#32) reducesTo_S16384x64_S16384_d1 h_S_)

/-- The exponentials of the logits less their row's greatest. -/
def refExp (X : FVec Ideal S16384x64 .f32) : FVec Ideal S16384x64 .f32 :=
  Host.exp (subf X (broadcastInDim S16384x64 ![0, 1] bcast_S16384x1_S16384x64_0_1 (broadcastInDim S16384x1 ![0] bcast_S16384_S16384x1_0 (refMax X))))

/-- The reference's probabilities. -/
def refProb (X : FVec Ideal S16384x64 .f32) : FVec Ideal S16384x64 .f32 :=
  Host.divf (refExp X) (broadcastInDim S16384x64 ![0, 1] bcast_S16384x1_S16384x64_0_1 (broadcastInDim S16384x1 ![0] bcast_S16384_S16384x1_0
    (Host.reduceAdd (refExp X) (constant S_ .f32 0x00000000#32) reducesTo_S16384x64_S16384_d1 h_S_)))

/-- The eight greatest probabilities with their experts. -/
def refTop (X : FVec Ideal S16384x64 .f32) : FVec Ideal S16384x8 .f32 × IVec S16384x8 32 :=
  Host.topK S16384x8 1 (FloatOps.cmpfTotal .gt) (refProb X) sliceFits_S16384x64_S16384x8

/-- The reference's weights. -/
def refWeights (X : FVec Ideal S16384x64 .f32) : FVec Ideal S16384x8 .f32 :=
  Host.divf (refTop X).1 (broadcastInDim S16384x8 ![0, 1] bcast_S16384x1_S16384x8_0_1 (broadcastInDim S16384x1 ![0] bcast_S16384_S16384x1_0
    (Host.reduceAdd (refTop X).1 (constant S_ .f32 0x00000000#32) reducesTo_S16384x8_S16384_d1 h_S_)))

theorem refMax_eq (X : FVec Ideal S16384x64 .f32) (r : Fin 16384) :
    refMax X (ix1 r) = max (Ideal.ofBits .f32 0xFF800000#32) (Finset.univ.fold max (Ideal.ofBits .f32 0xFF800000#32) fun e : Fin 64 => X (ix2 r e)) := by
  unfold refMax
  pointwise

theorem refExp_eq (X : FVec Ideal S16384x64 .f32) (r : Fin 16384) (e : Fin 64) :
    refExp X (ix2 r e) = Ideal.exp (X (ix2 r e) - refMax X (ix1 r)) := by
  unfold refExp
  pointwise

theorem refProb_eq (X : FVec Ideal S16384x64 .f32) (r : Fin 16384) (e : Fin 64) :
    refProb X (ix2 r e) = Ideal.div (refExp X (ix2 r e)) (0 + ∑ k : Fin 64, refExp X (ix2 r k)) := by
  unfold refProb
  pointwise

theorem refWeights_eq (X : FVec Ideal S16384x64 .f32) (r : Fin 16384) (k : Fin 8) :
    refWeights X (ix2 r k) = Ideal.div ((refTop X).1 (ix2 r k)) (0 + ∑ k : Fin 8, (refTop X).1 (ix2 r k)) := by
  unfold refWeights
  pointwise

/-- The expert at each place of a row's sorted probabilities. -/
def refPlace (X : FVec Ideal S16384x64 .f32) (r : Fin 16384) : Fin 64 → Fin 64 :=
  sortedFrom fun a b => Ideal.cmp .ogt (refProb X (ix2 r a)) (refProb X (ix2 r b)) == 1#1

end Cert.Proof.Router

end
-- ==== Proof.RefRow.lean ====
/-
  The reference's eight greatest of a row of finite logits: which experts they are, and their weights.
-/
module

public import proofs.«01_k».proof.Proof.Reference

@[expose] public section

noncomputable section

namespace Cert.Proof.Router

open Cert.ReferenceIdeal Cert.ReferenceIdeal.Gen
open Idealize.ShloMosaic

section TopK

variable {m n l : ℕ}

theorem along_ix2 (r : Fin m) (c b : Fin n) : Shape.Idx.along (s := ⟨2, ![m, n]⟩) (ix2 r c) 1 b = ix2 r b := by
  funext a
  match a with
  | 0 => rfl
  | 1 => rfl

theorem sort2_row {α β : Type} (cmp : α × β → α × β → BitVec 1) (x : (⟨2, ![m, n]⟩ : Shape).Idx → α) (y : (⟨2, ![m, n]⟩ : Shape).Idx → β) (r : Fin m) (c : Fin n) :
    (Host.sort2 ⟨2, ![m, n]⟩ 1 cmp x y).1 (ix2 r c) = x (ix2 r (sortedFrom (fun a b => cmp (x (ix2 r a), y (ix2 r a)) (x (ix2 r b), y (ix2 r b)) == 1#1) c))
      ∧ (Host.sort2 ⟨2, ![m, n]⟩ 1 cmp x y).2 (ix2 r c) = y (ix2 r (sortedFrom (fun a b => cmp (x (ix2 r a), y (ix2 r a)) (x (ix2 r b), y (ix2 r b)) == 1#1) c)) := by
  have hd : (1 : ℕ) < (⟨2, ![m, n]⟩ : Shape).rank := Nat.one_lt_two
  have hR : (fun a b => cmp (x (Shape.Idx.along (s := ⟨2, ![m, n]⟩) (ix2 r c) 1 a), y (Shape.Idx.along (s := ⟨2, ![m, n]⟩) (ix2 r c) 1 a))
        (x (Shape.Idx.along (s := ⟨2, ![m, n]⟩) (ix2 r c) 1 b), y (Shape.Idx.along (s := ⟨2, ![m, n]⟩) (ix2 r c) 1 b)) == 1#1)
      = (fun a b => cmp (x (ix2 r a), y (ix2 r a)) (x (ix2 r b), y (ix2 r b)) == 1#1) :=
    funext fun a => funext fun b => congrArg₂ (fun i j => cmp (x i, y i) (x j, y j) == 1#1) (along_ix2 r c a) (along_ix2 r c b)
  unfold Host.sort2
  rw [dif_pos hd]
  exact ⟨(congrArg x (along_ix2 r c _)).trans (congrArg (fun R => x (ix2 r (sortedFrom R c))) hR),
    (congrArg y (along_ix2 r c _)).trans (congrArg (fun R => y (ix2 r (sortedFrom R c))) hR)⟩

theorem slice_row {α : Type} (x : (⟨2, ![m, n]⟩ : Shape).Idx → α) (hl : l ≤ n) (h : (⟨2, ![m, n]⟩ : Shape).Slices (fun _ => 0) ⟨2, ![m, l]⟩) (r : Fin m) (k : Fin l) :
    extractStridedSlice ⟨2, ![m, l]⟩ (fun _ => 0) x h (ix2 r k) = x (ix2 r ⟨k.val, lt_of_lt_of_le k.isLt hl⟩) := by
  unfold extractStridedSlice
  congr 1
  funext a
  match a with
  | 0 => exact Fin.ext (Nat.zero_add _)
  | 1 => exact Fin.ext (Nat.zero_add _)

/-- A row's greatest under `gt`, by the stable sort of its places. -/
theorem topK_row {α : Type} (gt : α → α → BitVec 1) (x : (⟨2, ![m, n]⟩ : Shape).Idx → α) (hl : l ≤ n) (h : (⟨2, ![m, n]⟩ : Shape).Slices (fun _ => 0) ⟨2, ![m, l]⟩)
    (r : Fin m) (k : Fin l) :
    (Host.topK ⟨2, ![m, l]⟩ 1 gt x h).1 (ix2 r k) = x (ix2 r (sortedFrom (fun a b => gt (x (ix2 r a)) (x (ix2 r b)) == 1#1) ⟨k.val, lt_of_lt_of_le k.isLt hl⟩))
      ∧ (Host.topK ⟨2, ![m, l]⟩ 1 gt x h).2 (ix2 r k)
        = BitVec.ofNat 32 (sortedFrom (fun a b => gt (x (ix2 r a)) (x (ix2 r b)) == 1#1) ⟨k.val, lt_of_lt_of_le k.isLt hl⟩).val := by
  have e := sort2_row (fun l r : α × BitVec 32 => gt l.1 r.1) x
    (fun i => if hd : 1 < (⟨2, ![m, n]⟩ : Shape).rank then iotaInDim ⟨2, ![m, n]⟩ 32 ⟨1, hd⟩ i else 0#32) r ⟨k.val, lt_of_lt_of_le k.isLt hl⟩
  exact ⟨(slice_row _ hl h r k).trans e.1, (slice_row _ hl h r k).trans e.2⟩

end TopK

theorem refPlace_eq (X : FVec Ideal S16384x64 .f32) (r : Fin 16384) :
    refPlace X r = sortedFrom fun a b => FloatOps.cmpfTotal (F := Ideal) (φ := .f32) .gt (refProb X (ix2 r a)) (refProb X (ix2 r b)) == 1#1 := by
  unfold refPlace
  refine congrArg sortedFrom (funext fun a => funext fun b => ?_)
  generalize refProb X (ix2 r a) = p
  generalize refProb X (ix2 r b) = q
  rfl

theorem refTop_fst (X : FVec Ideal S16384x64 .f32) (r : Fin 16384) (k : Fin 8) :
    (refTop X).1 (ix2 r k) = refProb X (ix2 r (refPlace X r ⟨k.val, by omega⟩)) := by
  rw [refPlace_eq]
  exact (topK_row (m := 16384) (n := 64) (l := 8) (FloatOps.cmpfTotal (F := Ideal) (φ := .f32) .gt) (refProb X) (by decide) sliceFits_S16384x64_S16384x8 r k).1

theorem refTop_snd (X : FVec Ideal S16384x64 .f32) (r : Fin 16384) (k : Fin 8) :
    (refTop X).2 (ix2 r k) = BitVec.ofNat 32 (refPlace X r ⟨k.val, by omega⟩).val := by
  rw [refPlace_eq]
  exact (topK_row (m := 16384) (n := 64) (l := 8) (FloatOps.cmpfTotal (F := Ideal) (φ := .f32) .gt) (refProb X) (by decide) sliceFits_S16384x64_S16384x8 r k).2

/-- The stable sort of numbers, greater first, decreases. -/
theorem sorted_antitone {n : ℕ} (p : Fin n → EReal) : Antitone fun j => p (sortedFrom (fun a b => Ideal.cmp .ogt (p a) (p b) == 1#1) j) := by
  have hR : ∀ a b, ((Ideal.cmp .ogt (p a) (p b) == 1#1) = true) ↔ p b < p a := fun a b => by
    rw [beq_iff_eq]; exact cmp_ogt _ _
  have hF : ∀ a b, ((Ideal.cmp .ogt (p a) (p b) == 1#1) = false) ↔ p a ≤ p b := fun a b => by
    rw [← not_lt, ← hR, Bool.not_eq_true]
  intro i j hij
  rcases eq_or_lt_of_le hij with rfl | hij
  · exact le_rfl
  · exact (hF _ _).mp (sortedFrom_noInversion (fun a b => Ideal.cmp .ogt (p a) (p b) == 1#1) (fun a b => Ideal.cmp .ogt (p a) (p b) == 1#1) (fun a b h => (hF _ _).mpr (le_of_lt ((hR _ _).mp h))) (fun _ _ h => h)
      (fun a b c h h' => (hF _ _).mpr (((hF _ _).mp h).trans ((hF _ _).mp h'))) i j hij)

theorem ofBits_neg_inf : Idealize.ShloMosaic.Ideal.ofBits .f32 0xFF800000#32 = ⊥ := by
  simp [Idealize.ShloMosaic.Ideal.ofBits, Idealize.ShloMosaic.Ideal.ieee]

section Row

variable (X : FVec Ideal S16384x64 .f32) (r : Fin 16384) (t : Fin 64 → ℝ) (ht : ∀ e, X (ix2 r e) = ((t e : ℝ) : EReal))

include ht

theorem refMax_real : ∃ M : ℝ, refMax X (ix1 r) = (M : EReal) := by
  rw [refMax_eq, ofBits_neg_inf, max_eq_right bot_le]
  simp only [ht]
  have h1 : Finset.univ.fold max ⊥ (fun e : Fin 64 => ((t e : ℝ) : EReal)) < ⊤ :=
    Finset.fold_max_lt _ |>.mpr ⟨bot_lt_top, fun e _ => EReal.coe_lt_top _⟩
  have h2 : ((t 0 : ℝ) : EReal) ≤ Finset.univ.fold max ⊥ (fun e : Fin 64 => ((t e : ℝ) : EReal)) :=
    Finset.le_fold_max _ |>.mpr (.inr ⟨0, Finset.mem_univ _, le_rfl⟩)
  exact ⟨_, (EReal.coe_toReal (ne_of_lt h1) (ne_of_gt (lt_of_lt_of_le (EReal.bot_lt_coe _) h2))).symm⟩

theorem refProb_real : ∃ M Z : ℝ, 0 < Z ∧ ∀ e, refProb X (ix2 r e) = ((Real.exp (t e - M) / Z : ℝ) : EReal) := by
  obtain ⟨M, hM⟩ := refMax_real X r t ht
  have he : ∀ e, refExp X (ix2 r e) = ((Real.exp (t e - M) : ℝ) : EReal) := fun e => by
    rw [refExp_eq, ht, hM, ← EReal.coe_sub, exp_coe]
  have hZ : 0 < ∑ e : Fin 64, Real.exp (t e - M) := Finset.sum_pos (fun e _ => Real.exp_pos _) Finset.univ_nonempty
  refine ⟨M, _, hZ, fun e => ?_⟩
  rw [refProb_eq]
  simp only [he]
  rw [coe_sum, zero_add, div_coe _ _ (ne_of_gt hZ)]

/-- The logit at each of the sorted places is the greatest of its rank. -/
theorem refPlace_kth (k : Fin 64) : IsKth (α := EReal) (fun e => X (ix2 r e)) k.val (X (ix2 r (refPlace X r k))) := by
  obtain ⟨M, Z, hZ, hp⟩ := refProb_real X r t ht
  refine kth_sorted (α := EReal) (fun e => X (ix2 r e)) (refPlace X r) (sortedFrom_injective _) (fun i j hij => ?_) k
  have h : refProb X (ix2 r (refPlace X r j)) ≤ refProb X (ix2 r (refPlace X r i)) := sorted_antitone (fun e => refProb X (ix2 r e)) hij
  rw [hp, hp, EReal.coe_le_coe_iff, div_le_div_iff_of_pos_right hZ, Real.exp_le_exp, sub_le_sub_iff_right] at h
  show X (ix2 r (refPlace X r j)) ≤ X (ix2 r (refPlace X r i))
  rw [ht, ht]
  exact EReal.coe_le_coe_iff.mpr h

theorem refWeights_real (M' : ℝ) (k : Fin 8) : refWeights X (ix2 r k) =
    ((Real.exp (t (refPlace X r ⟨k.val, by omega⟩) - M') / ∑ i : Fin 8, Real.exp (t (refPlace X r ⟨i.val, by omega⟩) - M') : ℝ) : EReal) := by
  obtain ⟨M, Z, hZ, hp⟩ := refProb_real X r t ht
  rw [← renorm (fun i : Fin 8 => t (refPlace X r ⟨i.val, by omega⟩)) M M' Z (ne_of_gt hZ) k, refWeights_eq]
  simp only [refTop_fst, hp]
  rw [coe_sum, zero_add, div_coe]
  exact ne_of_gt (Finset.sum_pos (fun i _ => div_pos (Real.exp_pos _) hZ) Finset.univ_nonempty)

end Row

end Cert.Proof.Router

end
-- ==== Proof.Rows.lean ====
/-
  A row of the kernel's results against the reference's: the weights are equal, and the experts where the row's logits
  do not tie.
-/
module

public import proofs.«01_k».proof.Proof.RefRow
public import proofs.«01_k».proof.Proof.Tile

@[expose] public section

noncomputable section

namespace Cert.Proof.Router

open Cert.KernelIdeal Cert.KernelIdeal.Gen
open Idealize.ShloMosaic

/-- A condition that holds wherever another does, and at one more place, holds at more places. -/
theorem cnt_lt {β : Type} {n : ℕ} (x : Fin n → β) (P Q : β → Prop) (h : ∀ b, P b → Q b) (i : Fin n) (hp : ¬ P (x i)) (hq : Q (x i)) : cnt x P < cnt x Q := by
  classical
  unfold cnt
  refine Finset.card_lt_card ((Finset.ssubset_iff_of_subset fun a ha => ?_).mpr ⟨i, ?_, ?_⟩)
  · exact Finset.mem_filter.mpr ⟨Finset.mem_univ _, h _ (Finset.mem_filter.mp ha).2⟩
  · exact Finset.mem_filter.mpr ⟨Finset.mem_univ _, hq⟩
  · exact fun h' => hp (Finset.mem_filter.mp h').2

/-- The number at a place that exactly `j` are greater than. -/
theorem kth_of_count {n : ℕ} (x : Fin n → EReal) (i : Fin n) (j : ℕ) (h : cnt x (fun a => x i < a) = j) : IsKth (α := EReal) x j (x i) :=
  ⟨le_of_eq h, by
    rw [← h]
    exact cnt_lt x _ _ (fun _ => le_of_lt) i (lt_irrefl _) le_rfl⟩

theorem unique_of_count {β : Type} {n : ℕ} (x : Fin n → β) (P : β → Prop) (h : cnt x P = 1) (a b : Fin n) (ha : P (x a)) (hb : P (x b)) : a = b := by
  classical
  unfold cnt at h
  exact Finset.card_le_one.mp (le_of_eq h) a (Finset.mem_filter.mpr ⟨Finset.mem_univ _, ha⟩) b (Finset.mem_filter.mpr ⟨Finset.mem_univ _, hb⟩)

variable (X : FVec Ideal Cert.ReferenceIdeal.S16384x64 .f32) (r : Fin 16384) (t : Fin 64 → ℝ) (ht : ∀ e, X (ix2 r e) = ((t e : ℝ) : EReal))

include ht

/-- The kernel's key at each lane is the reference's logit at that place. -/
theorem top_eq (j : Fin 16) : (top (F := Ideal) fun e => X (ix2 r e)).1 (ln j) = X (ix2 r (refPlace X r ⟨j.val, by omega⟩)) :=
  kth_unique (α := EReal) (fun e => X (ix2 r e)) j.val _ _ ((holds_top fun e => X (ix2 r e)).tops.kth j) (refPlace_kth X r t ht ⟨j.val, by omega⟩)

theorem weights_eq (k : Fin 8) : wRow (top (F := Ideal) fun e => X (ix2 r e)).1 (ln ⟨k.val, by omega⟩) = refWeights X (ix2 r k) := by
  obtain ⟨M, hM⟩ := wRow_real (top (F := Ideal) fun e => X (ix2 r e)).1 (fun j => t (refPlace X r ⟨j.val, by omega⟩))
    (fun j => (top_eq X r t ht j).trans (ht _))
  rw [refWeights_real X r t ht M k]
  exact hM k

theorem experts_eq (k : Fin 8) (i : Fin 64) (h1 : cnt (fun e => (X (ix2 r e) : EReal)) (fun a => X (ix2 r i) < a) = k.val)
    (h2 : cnt (fun e => (X (ix2 r e) : EReal)) (fun a => a = X (ix2 r i)) = 1) :
    (top (F := Ideal) fun e => X (ix2 r e)).2 (ln ⟨k.val, by omega⟩) = (refTop X).2 (ix2 r k) := by
  obtain ⟨e, he, hx⟩ := (holds_top fun e => X (ix2 r e)).index ⟨k.val, by omega⟩
  have hp := refPlace_kth X r t ht ⟨k.val, by omega⟩
  have hi := kth_of_count (fun e => (X (ix2 r e) : EReal)) i k.val h1
  have e1 := kth_unique (α := EReal) (fun e => X (ix2 r e)) k.val _ _ hp hi
  have e2 : X (ix2 r e) = X (ix2 r i) := (hx.trans (top_eq X r t ht ⟨k.val, by omega⟩)).trans e1
  have e3 : e = refPlace X r ⟨k.val, by omega⟩ := unique_of_count (fun e => (X (ix2 r e) : EReal)) _ h2 _ _ e2 e1
  rw [he, refTop_snd, e3]

end Cert.Proof.Router

end
-- ==== Proof.Mask.lean ====
/-
  What the mask says of a row: at a place it covers, one expert's logit has just as many greater, and none equal.
-/
module

public import proofs.«01_k».proof.Proof.Counting
public import proofs.«01_k».proof.Proof.Gen.On_untied
public import proofs.«01_k».proof.Proof.Rank
public import Idealize.ShloMosaic.Lib.Pointwise

@[expose] public section

noncomputable section

namespace Cert.Proof.Router

open Cert.On_untied Cert.On_untied.Gen
open Idealize.ShloMosaic

/-- An `or` of bits that is one has a one among them. -/
theorem exists_of_or {n : ℕ} (f : Fin n → BitVec 1) (h : Finset.univ.fold IntOp.ori 0#1 f = 1#1) : ∃ i, f i = 1#1 := by
  classical
  by_contra hn
  have h0 : ∀ i, f i = 0#1 := fun i => by
    have := not_exists.mp hn i
    generalize f i = b at this
    revert b; decide
  have : ∀ s : Finset (Fin n), s.fold IntOp.ori 0#1 f = 0#1 := fun s => by
    induction s using Finset.induction_on with
    | empty => rfl
    | insert a s ha ih => rw [Finset.fold_insert ha, ih, h0]; rfl
  rw [this] at h
  exact absurd h (by decide)

/-- A sum of bits is the count of the ones. -/
theorem sum_bits {n : ℕ} {β : Type} (x : Fin n → β) (P : β → Prop) (f : Fin n → BitVec 1) (hf : ∀ i, f i = 1 ↔ P (x i)) :
    Finset.univ.fold IntOp.addi 0#32 (fun i => (f i).setWidth 32) = BitVec.ofNat 32 (cnt x P) := by
  classical
  have : ∀ s : Finset (Fin n), s.fold IntOp.addi 0#32 (fun i => (f i).setWidth 32) = BitVec.ofNat 32 (s.filter fun i => P (x i)).card := fun s => by
    induction s using Finset.induction_on with
    | empty => rfl
    | insert a s ha ih =>
      rw [Finset.fold_insert ha, ih, Finset.filter_insert]
      by_cases h : P (x a)
      · rw [if_pos h, Finset.card_insert_of_notMem (fun h' => ha (Finset.mem_filter.mp h').1), (hf a).mpr h, Nat.add_comm, BitVec.ofNat_add]
        rfl
      · have h0 : f a = 0 := by
          have := fun h' => h ((hf a).mp h')
          generalize f a = b at this
          revert b; decide
        rw [if_neg h, h0]
        exact BitVec.zero_add _
  have := this Finset.univ
  unfold cnt
  convert this

theorem sum_decide {n : ℕ} {β : Type} (x : Fin n → β) (P : β → Prop) {inst : ∀ i, Decidable (P (x i))} :
    Finset.univ.fold IntOp.addi 0#32 (fun i => (BitVec.ofBool (@decide _ (inst i))).setWidth 32) = BitVec.ofNat 32 (cnt x P) :=
  sum_bits x P _ fun _ => ofBool_one _

variable (a : FVec Ideal S2x8192x4096 .f32) (w : FVec Ideal S64x4096 .f32)

/-- The logits the mask is computed from. -/
def maskLogits : FVec Ideal S16384x64 .f32 :=
  Host.dotGeneral dot_S16384x4096_S4096x64_S16384x64_1_0_0_1_n_n none (shapeCast S16384x4096 a shapeCasts_S2x8192x4096_S16384x4096)
    (transpose S4096x64 [1, 0] w transposes_S64x4096_S4096x64_1_0)

theorem cmpi_one {n : ℕ} (p q : BitVec n) : IntOp.cmpi .eq p q = 1#1 ↔ p = q := by
  unfold IntOp.cmpi
  exact ofBool_one _

theorem ofNat_inj32 (p q : ℕ) (hp : p < 2 ^ 32) (hq : q < 2 ^ 32) (h : BitVec.ofNat 32 p = BitVec.ofNat 32 q) : p = q := by
  have := congrArg BitVec.toNat h
  rwa [BitVec.toNat_ofNat, BitVec.toNat_ofNat, Nat.mod_eq_of_lt hp, Nat.mod_eq_of_lt hq] at this

theorem andi_one (p q : BitVec 1) (h : IntOp.andi p q = 1#1) : p = 1#1 ∧ q = 1#1 := by
  revert p q; decide

/-- At a place the mask covers, one expert's logit has that many greater, and no other equal. -/
theorem mask_place (r : Fin 16384) (k : Fin 8) (h : (fn a w).2.2 (ix2 r k) = 1#1) :
    ∃ i : Fin 64, cnt (fun e => (maskLogits a w (ix2 r e) : EReal)) (fun b => maskLogits a w (ix2 r i) < b) = k.val
      ∧ cnt (fun e => (maskLogits a w (ix2 r e) : EReal)) (fun b => b = maskLogits a w (ix2 r i)) = 1 := by
  unfold fn fn_part1 at h
  dsimp only at h
  change (Host.reduce IntOp.ori (andi _ _) _ _ _) (ix2 r k) = 1#1 at h
  unfold maskLogits
  generalize hX : Host.dotGeneral (F := Ideal) dot_S16384x4096_S4096x64_S16384x64_1_0_0_1_n_n none (shapeCast S16384x4096 a shapeCasts_S2x8192x4096_S16384x4096)
    (transpose S4096x64 [1, 0] w transposes_S64x4096_S4096x64_1_0) = X at h ⊢
  pointwise at h
  obtain ⟨i, hi⟩ := exists_of_or _ h
  obtain ⟨h1, h2⟩ := andi_one _ _ hi
  have h1 := (cmpi_one _ _).mp h1
  have h2 := (cmpi_one _ _).mp h2
  have h1 := (sum_decide (fun e => (X (ix2 r e) : EReal)) (fun b => X (ix2 r i) < b)).symm.trans h1
  have h2 := (sum_decide (fun e => (X (ix2 r e) : EReal)) (fun b => b = X (ix2 r i))).symm.trans h2
  have hc : ∀ P : EReal → Prop, cnt (fun e => (X (ix2 r e) : EReal)) P < 2 ^ 32 := fun P =>
    lt_of_le_of_lt (cnt_le _ P) (by norm_num)
  exact ⟨i, ofNat_inj32 _ _ (hc _) (lt_trans k.isLt (by norm_num)) h1, ofNat_inj32 _ 1 (hc _) (by norm_num) h2⟩

end Cert.Proof.Router

end
-- ==== Proof.Product.lean ====
/-
  The two results of the TensorCore's region as products: the logits transposed, and the logits in pairs of rows.
-/
module

public import proofs.«01_k».proof.Proof.Region
public import Idealize.ShloMosaic.Lib.Pipeline.ValueKit
public import Idealize.ShloMosaic.Lib.Pointwise

@[expose] public section

noncomputable section

namespace Cert.Proof.Router

open Cert.KernelIdeal Cert.KernelIdeal.Gen
open Idealize.ShloMosaic Idealize.ShloMosaic.TcCoe
open Idealize.ShloMosaic.Pipeline (Dat Cfg Window)

/-- The logit of row `n` and expert `e`. -/
def logit (X : FVec Ideal S16384x4096 .f32) (W : FVec Ideal S4096x64 .f32) (n : Fin 16384) (e : Fin 64) : EReal :=
  ∑ k : Fin 4096, X (ix2 n k) * W (ix2 k e)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = t.val := by decide +kernel
theorem index3 : ∀ t : Fin cfg0.N, win0_3.index t 0 = t.val ∧ win0_3.index t 1 = 0 := by decide +kernel

theorem pay1_eq (x : Vec Ideal S1024x4096 .f32) (w : Vec Ideal S4096x64 .f32) (r : Fin 1024) (e : Fin 64) :
    k0_pay1 x w (ix2 r e) = ∑ k : Fin 4096, (x (ix2 r k) : EReal) * w (ix2 k e) := by
  pointwise [k0_pay1]

theorem pay2_eq (x : Vec Ideal S1024x4096 .f32) (w : Vec Ideal S4096x64 .f32) (r : Fin 1024) (e : Fin 64) :
    k0_pay2 x w (ix2 e r) = ∑ k : Fin 4096, (x (ix2 r k) : EReal) * w (ix2 k e) := by
  rw [← pay1_eq]
  pointwise [k0_pay2]

theorem pay3_eq (x : Vec Ideal S1024x4096 .f32) (w : Vec Ideal S4096x64 .f32) (j : Fin 512) (q : Fin 2) (e : Fin 64) :
    k0_pay3 x w (ix2 j ⟨q.val * 64 + e.val, by omega⟩) = ∑ k : Fin 4096, (x (ix2 ⟨q.val * 512 + j.val, by omega⟩ k) : EReal) * w (ix2 k e) := by
  rw [← pay1_eq]
  fin_cases q
  · pointwise [k0_pay3]
  · pointwise [k0_pay3]

variable (V : Vals Ideal) (d : Dev nD)

theorem blkX_eq (t : Fin cfg0.N) (r : Fin 1024) (k : Fin 4096) :
    blkX V d t (ix2 r k) = V d main_v0 (ix2 (n0 := 16384) (n1 := 4096) ⟨t.val * 1024 + r.val, by have h : t.val < 16 := t.isLt; omega⟩ k) := by
  blk_ext [blkX, index0 t]

theorem blkW_eq (t : Fin cfg0.N) (k : Fin 4096) (e : Fin 64) :
    blkW V d t (ix2 k e) = V d main_v1 (ix2 (n0 := 4096) (n1 := 64) k e) := by
  blk_ext [blkW, index1 t]

/-- The logits transposed, as an array. -/
def logitsTArr : Vec Ideal S64x16384 .f32 := fun i => logit (V d main_v0) (V d main_v1) (i 1) (i 0)

/-- The logits in pairs of rows, as an array. -/
def linArr : Vec Ideal S8192x128 .f32 := fun i =>
  logit (V d main_v0) (V d main_v1)
    ⟨((i 0).val / 512) * 1024 + ((i 1).val / 64) * 512 + (i 0).val % 512, by
      have h0 : (i 0).val < 8192 := (i 0).isLt
      have h1 : (i 1).val < 128 := (i 1).isLt
      omega⟩
    ⟨(i 1).val % 64, Nat.mod_lt _ (by decide)⟩

theorem pay2_blk (t : Fin cfg0.N) (r : Fin 1024) (e : Fin 64) : k0_pay2 (blkX V d t) (blkW V d t) (ix2 e r)
    = logit (V d main_v0) (V d main_v1) ⟨t.val * 1024 + r.val, by have h : t.val < 16 := t.isLt; omega⟩ e := by
  rw [pay2_eq]
  unfold logit
  refine Finset.sum_congr rfl fun k _ => ?_
  rw [blkX_eq, blkW_eq]

theorem pay3_blk (t : Fin cfg0.N) (j : Fin 512) (q : Fin 2) (e : Fin 64) :
    k0_pay3 (blkX V d t) (blkW V d t) (ix2 j ⟨q.val * 64 + e.val, by omega⟩)
      = logit (V d main_v0) (V d main_v1) ⟨t.val * 1024 + (q.val * 512 + j.val), by have h : t.val < 16 := t.isLt; omega⟩ e := by
  rw [pay3_eq]
  unfold logit
  refine Finset.sum_congr rfl fun k _ => ?_
  rw [blkX_eq, blkW_eq]

theorem logitsT_eq : logitsT V d = logitsTArr V d := by
  refine (dat V d).arrAt_eq_of_covers 2 _ (by decide +kernel) fun t hf y => ?_
  blk_simp
  have he : ((cfg0.win 2).blk t).view.emb y = (ix2 (n0 := 64) (n1 := 16384) (y 0) ⟨t.val * 1024 + (y 1).val, by
      have h : t.val < 16 := t.isLt
      have h1 : (y 1).val < 1024 := (y 1).isLt
      omega⟩ : S64x16384.Idx) := by
    blk_ext [index2 t]
  refine Eq.trans ?_ (congrArg (logitsTArr V d) he).symm
  refine Eq.trans ?_ (pay2_blk V d t (y 1) (y 0))
  exact congrArg (k0_pay2 (blkX V d t) (blkW V d t)) (eq_ix2 (n0 := 64) (n1 := 1024) y)

theorem lin_eq : lin V d = linArr V d := by
  refine (dat V d).arrAt_eq_of_covers 3 _ (by decide +kernel) fun t hf y => ?_
  blk_simp
  have ht : t.val < 16 := t.isLt
  have h0 : (y 0).val < 512 := (y 0).isLt
  have h1 : (y 1).val < 128 := (y 1).isLt
  have he : ((cfg0.win 3).blk t).view.emb y = (ix2 (n0 := 8192) (n1 := 128) ⟨t.val * 512 + (y 0).val, by omega⟩ (y 1) : S8192x128.Idx) := by
    blk_ext [index3 t]
  refine Eq.trans ?_ (congrArg (linArr V d) he).symm
  refine Eq.trans ?_ ((pay3_blk V d t (y 0) ⟨(y 1).val / 64, by omega⟩ ⟨(y 1).val % 64, by omega⟩).trans ?_)
  · refine congrArg (k0_pay3 (blkX V d t) (blkW V d t)) ((eq_ix2 (n0 := 512) (n1 := 128) y).trans ?_)
    exact congrArg (ix2 (n0 := 512) (n1 := 128) (y 0)) (Fin.ext (show (y 1).val = (y 1).val / 64 * 64 + (y 1).val % 64 by omega))
  · refine congrArg (fun n => logit (V d main_v0) (V d main_v1) n ⟨(y 1).val % 64, by omega⟩) (Fin.ext ?_)
    show t.val * 1024 + ((y 1).val / 64 * 512 + (y 0).val) = (t.val * 512 + (y 0).val) / 512 * 1024 + (y 1).val / 64 * 512 + (t.val * 512 + (y 0).val) % 512
    omega

/-- Row `n` of the paired logits. -/
theorem linRow_eq (n : Fin 16384) : linRow (lin V d) n = logit (V d main_v0) (V d main_v1) n := by
  funext e
  rw [lin_eq]
  obtain ⟨a, b, c, hb, hc, hn⟩ : ∃ a b c, b < 2 ∧ c < 512 ∧ n.val = a * 1024 + (b * 512 + c) :=
    ⟨n.val / 1024, n.val % 1024 / 512, n.val % 512, by omega, by omega, by omega⟩
  have e1 : n.val / 1024 = a := by omega
  have e2 : n.val % 1024 / 512 = b := by omega
  have e3 : n.val % 512 = c := by omega
  have he := e.isLt
  refine congrArg₂ (logit (V d main_v0) (V d main_v1)) (Fin.ext ?_) (Fin.ext ?_)
  · show (n.val / 1024 * 512 + n.val % 512) / 512 * 1024 + (n.val % 1024 / 512 * 64 + e.val) / 64 * 512 + (n.val / 1024 * 512 + n.val % 512) % 512 = n.val
    rw [e1, e2, e3]
    omega
  · show (n.val % 1024 / 512 * 64 + e.val) % 64 = e.val
    omega

end Cert.Proof.Router

end
-- ==== Proof.Finite.lean ====
/-
  Arguments that are finite have finite logits.
-/
module

public import proofs.«01_k».proof.Proof.Softmax
public import proofs.«01_k».proof.Proof.Product
public import proofs.«01_k».proof.Proof.Gen.Pre_finite
public import Idealize.ShloMosaic.Lib.Pointwise
public import Idealize.ShloMosaic.Lib.ReduceAll
public import Idealize.ShloMosaic.PureOps.Ideal.Laws

@[expose] public section

noncomputable section

namespace Cert.Proof.Router

open Cert.Pre_finite Cert.Pre_finite.Gen
open Idealize.ShloMosaic

/-- A number whose size is below infinity is real. -/
theorem real_of_lt (x : EReal) (h : max x (-x) < ⊤) : ∃ y : ℝ, x = (y : EReal) := by
  induction x using EReal.rec with
  | bot => simp at h
  | coe y => exact ⟨y, rfl⟩
  | top => simp at h

theorem ofBits_inf : Ideal.ofBits .f32 0x7F800000#32 = (⊤ : EReal) := by
  simp [Idealize.ShloMosaic.Ideal.ofBits, Idealize.ShloMosaic.Ideal.ieee]

theorem real_of_cmp (x : EReal) (h : Ideal.cmp .olt (max x (-x)) (Ideal.ofBits .f32 0x7F800000#32) = 1#1) : ∃ y : ℝ, x = (y : EReal) := by
  rw [ofBits_inf] at h
  unfold Ideal.cmp at h
  exact real_of_lt x ((ofBool_one _).mp h)

variable (a : FVec Ideal S2x8192x4096 .f32) (w : FVec Ideal S64x4096 .f32)

theorem finite_args (h : fn a w = fun _ => 1#1) : (∀ i, ∃ y : ℝ, a i = (y : EReal)) ∧ ∀ i, ∃ y : ℝ, w i = (y : EReal) := by
  have h0 := congrFun h (Shape.Idx.first h_S_)
  unfold fn at h0
  dsimp only at h0
  have h1 : ∀ p q : BitVec 1, IntOp.andi p q = 1#1 → p = 1#1 ∧ q = 1#1 := by decide
  obtain ⟨ha, hw⟩ := h1 _ _ h0
  have : Subsingleton S_.Idx := ⟨fun p q => funext fun d => d.elim0⟩
  refine ⟨fun i => ?_, fun i => ?_⟩
  · have := Host.reduce_andi_all _ _ _ _ _ ha i
    exact real_of_cmp _ this
  · have := Host.reduce_andi_all _ _ _ _ _ hw i
    exact real_of_cmp _ this

/-- A sum of products of reals is real. -/
theorem logit_real (X : FVec Ideal Cert.KernelIdeal.S16384x4096 .f32) (W : FVec Ideal Cert.KernelIdeal.S4096x64 .f32)
    (hx : ∀ i, ∃ y : ℝ, X i = (y : EReal)) (hw : ∀ i, ∃ y : ℝ, W i = (y : EReal)) (n : Fin 16384) (e : Fin 64) : ∃ y : ℝ, logit X W n e = (y : EReal) := by
  choose f hf using hx
  choose g hg using hw
  refine ⟨∑ k : Fin 4096, f (ix2 n k) * g (ix2 k e), ?_⟩
  unfold logit
  rw [← coe_sum]
  exact Finset.sum_congr rfl fun k _ => by rw [hf, hg, EReal.coe_mul]

end Cert.Proof.Router

end
-- ==== Proof.Algebraic.lean ====
/-
  The kernel's results against the reference's, over the extended reals.
-/
module

public import proofs.«01_k».proof.Defs
public import proofs.«01_k».proof.Proof.Rows
public import proofs.«01_k».proof.Proof.Mask
public import proofs.«01_k».proof.Proof.Finite
public import proofs.«01_k».proof.Proof.Frames

@[expose] public section

noncomputable section

namespace Cert.Proof.Router

open Cert.KernelIdeal Cert.KernelIdeal.Gen
open Idealize.ShloMosaic Idealize.SL.Sem

/-- The reference's logits. -/
def refLogits (a : FVec Ideal S2x8192x4096 .f32) (w : FVec Ideal S64x4096 .f32) : FVec Ideal Cert.ReferenceIdeal.S16384x64 .f32 :=
  Host.dotGeneral (F := Ideal) Cert.ReferenceIdeal.dot_S16384x4096_S4096x64_S16384x64_1_0_0_1_n_n none
    (shapeCast _ a Cert.ReferenceIdeal.Gen.shapeCasts_S2x8192x4096_S16384x4096) (transpose Cert.ReferenceIdeal.S4096x64 [1, 0] w Cert.ReferenceIdeal.Gen.transposes_S64x4096_S4096x64_1_0)

theorem dot_eq (X : FVec Ideal S16384x4096 .f32) (W : FVec Ideal S4096x64 .f32) (n : Fin 16384) (e : Fin 64) :
    Host.dotGeneral (F := Ideal) Cert.ReferenceIdeal.dot_S16384x4096_S4096x64_S16384x64_1_0_0_1_n_n none X W (ix2 n e) = logit X W n e := by
  unfold logit
  pointwise

theorem refLogits_eq (a : FVec Ideal S2x8192x4096 .f32) (w : FVec Ideal S64x4096 .f32) (n : Fin 16384) (e : Fin 64) :
    refLogits a w (ix2 n e) = logit (shapeCast S16384x4096 a shapeCasts_S2x8192x4096_S16384x4096) (transpose S4096x64 [1, 0] w transposes_S64x4096_S4096x64_1_0) n e :=
  dot_eq _ _ n e

theorem maskLogits_eq (a : FVec Ideal S2x8192x4096 .f32) (w : FVec Ideal S64x4096 .f32) : maskLogits a w = refLogits a w := rfl

theorem transpose_apply2 {α : Type} {p q : ℕ} (x : (⟨2, ![p, q]⟩ : Shape).Idx → α) (h) (n : Fin q) (e : Fin p) :
    transpose ⟨2, ![q, p]⟩ [1, 0] x h (ix2 n e) = x (ix2 e n) :=
  congrArg x (funext fun a => match a with | 0 => rfl | 1 => rfl)

section Device

variable (m : (ℓ : Loc nD τ sig) → Buf (Elt Ideal) ℓ) (d : Dev nD)

/-- The arguments of a device. -/
def argX : FVec Ideal S2x8192x4096 .f32 := m ((tc d).loc main_arg0)
def argW : FVec Ideal S64x4096 .f32 := m ((tc d).loc main_arg1)

/-- The reference's logits of a device's arguments. -/
def devLogits : FVec Ideal Cert.ReferenceIdeal.S16384x64 .f32 := refLogits (argX m d) (argW m d)

theorem devLogits_eq (n : Fin 16384) (e : Fin 64) : devLogits m d (ix2 n e) = logit (V1 m d main_v0) (V1 m d main_v1) n e := by
  rw [V1_x, V1_w]
  exact refLogits_eq _ _ n e

theorem row_eq (n : Fin 16384) : linRow (lin (V1 m) d) n = fun e => devLogits m d (ix2 n e) := by
  rw [linRow_eq]
  funext e
  exact (devLogits_eq m d n e).symm

theorem out_logits (n : Fin 16384) (e : Fin 64) : W4 m d (Proc.devRef .tc main_v4) (ix2 n e) = devLogits m d (ix2 n e) := by
  rw [W4_l, logitsT_eq, devLogits_eq]
  exact transpose_apply2 (logitsTArr (V1 m) d) _ n e

theorem out_weights (n : Fin 16384) (k : Fin 8) :
    W4 m d (Proc.devRef .tc main_v5) (ix2 n k) = wRow (top (F := Ideal) fun e => devLogits m d (ix2 n e)).1 (ln ⟨k.val, by omega⟩) := by
  rw [W4_w, ← row_eq]
  exact transpose_apply2 (WT (lin (V1 m) d)) _ n k

theorem out_experts (n : Fin 16384) (k : Fin 8) :
    W4 m d (Proc.devRef .tc main_v6) (ix2 n k) = (top (F := Ideal) fun e => devLogits m d (ix2 n e)).2 (ln ⟨k.val, by omega⟩) := by
  rw [W4_i, ← row_eq]
  exact transpose_apply2 (IT (lin (V1 m) d)) _ n k

theorem devLogits_real (h : Cert.Pre_finite.fn (argX m d) (argW m d) = fun _ => 1#1) (n : Fin 16384) : ∃ t : Fin 64 → ℝ, ∀ e, devLogits m d (ix2 n e) = ((t e : ℝ) : EReal) := by
  obtain ⟨ha, hw⟩ := finite_args _ _ h
  have : ∀ e, ∃ y : ℝ, devLogits m d (ix2 n e) = (y : EReal) := fun e => by
    obtain ⟨y, hy⟩ := logit_real (shapeCast S16384x4096 (argX m d) shapeCasts_S2x8192x4096_S16384x4096) (transpose S4096x64 [1, 0] (argW m d) transposes_S64x4096_S4096x64_1_0)
      (fun i => ha _) (fun i => hw _) n e
    exact ⟨y, (refLogits_eq _ _ n e).trans hy⟩
  choose t ht using this
  exact ⟨t, ht⟩

end Device

/-- The two programs' results over the extended reals: equal everywhere, but for an expert whose logit ties. -/
theorem algebraic : Cert.algebraic_KernelIdeal_ReferenceIdeal_on_untied_pre_finite := by
  intro m g m' g' hpre harg
  refine ⟨fun c => devLogits m c, fun c => refWeights (devLogits m c), fun c => (refTop (devLogits m c)).2, ?_, ?_⟩
  · refine (θ_run Cert.KernelIdeal.defs _ _).mono (fun r h c => ?_) (run_read (F := Ideal) m g)
    obtain ⟨⟨h0, h1⟩, h4, h5, h6⟩ := h.1 c
    refine ⟨fun i _ => ?_, fun i _ => ?_, fun i hi => ?_, h0, h1⟩
    · obtain ⟨n, e, rfl⟩ : ∃ n e, i = ix2 n e := ⟨i 0, i 1, by funext a; match a with | 0 => rfl | 1 => rfl⟩
      exact (congrFun h4 _).trans (out_logits m c n e)
    · obtain ⟨n, k, rfl⟩ : ∃ n e, i = ix2 n e := ⟨i 0, i 1, by funext a; match a with | 0 => rfl | 1 => rfl⟩
      obtain ⟨t, ht⟩ := devLogits_real m c (hpre c) n
      exact (congrFun h5 _).trans ((out_weights m c n k).trans (weights_eq (devLogits m c) n t ht k))
    · obtain ⟨n, k, rfl⟩ : ∃ n e, i = ix2 n e := ⟨i 0, i 1, by funext a; match a with | 0 => rfl | 1 => rfl⟩
      obtain ⟨t, ht⟩ := devLogits_real m c (hpre c) n
      obtain ⟨x, hx1, hx2⟩ := mask_place (argX m c) (argW m c) n k hi
      exact (congrFun h6 _).trans ((out_experts m c n k).trans (experts_eq (devLogits m c) n t ht k x hx1 hx2))
  · refine (θ_run Cert.ReferenceIdeal.defs _ _).mono (fun r h c => ?_) (Cert.ReferenceIdeal.Value.run (F := Ideal) m' g')
    obtain ⟨h2, h17, hi, h0, h1⟩ := h c
    have e0 := (harg c).1
    have e1 := (harg c).2
    refine ⟨fun i _ => ?_, fun i _ => ?_, fun i _ => ?_, h0, h1⟩
    · rw [h2, e0, e1]; rfl
    · rw [h17]
      unfold Cert.ReferenceIdeal.Value.res_main_v17
      rw [e0, e1]; rfl
    · rw [hi, e0, e1]; rfl

end Cert.Proof.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_finite
public import proofs.«01_k».proof.Proof.Gen.On_untied
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts, Cert.On_untied.Gen.facts,
    Router.frame_kernel, Router.frame_ideal, Router.frame_ideal_finite, Router.frame_reference, Router.frame_reference_finite, trivial,
    Router.algebraic⟩

end Cert.Proof

end
